-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x4096 : Shape := ⟨3, ![1, 128, 4096]⟩
abbrev S4096x14336 : Shape := ⟨2, ![4096, 14336]⟩
abbrev S14336 : Shape := ⟨1, ![14336]⟩
abbrev S128x4096 : Shape := ⟨2, ![128, 4096]⟩
abbrev S1x14336 : Shape := ⟨2, ![1, 14336]⟩
abbrev S128x14336 : Shape := ⟨2, ![128, 14336]⟩
abbrev S1x128 : Shape := ⟨2, ![1, 128]⟩
abbrev S4096x512 : Shape := ⟨2, ![4096, 512]⟩
abbrev S1x512 : Shape := ⟨2, ![1, 512]⟩
abbrev S128x512 : Shape := ⟨2, ![128, 512]⟩
abbrev S128x1 : Shape := ⟨2, ![128, 1]⟩
abbrev S28x128x512 : Shape := ⟨3, ![28, 128, 512]⟩
abbrev S128 : Shape := ⟨1, ![128]⟩
abbrev S128x1024 : Shape := ⟨2, ![128, 1024]⟩
abbrev S1024x512 : Shape := ⟨2, ![1024, 512]⟩
abbrev S1x128x512 : Shape := ⟨3, ![1, 128, 512]⟩
abbrev S1x128x14336 : Shape := ⟨3, ![1, 128, 14336]⟩

abbrev nBuf : Space → Nat
  | .hbm => 13
  | .vmem => 15
  | .smem => 0
  | _ => 0

abbrev bufTy : (tb : Table) → Fin (tcTables nBuf tb) → BufTy
  | .hbm, ⟨0, _⟩ => ⟨S1x128x4096, .bf16⟩
  | .hbm, ⟨1, _⟩ => ⟨S4096x14336, .i8⟩
  | .hbm, ⟨2, _⟩ => ⟨S14336, .f32⟩
  | .hbm, ⟨3, _⟩ => ⟨S128x4096, .bf16⟩
  | .hbm, ⟨4, _⟩ => ⟨S1x14336, .f32⟩
  | .hbm, ⟨5, _⟩ => ⟨S128x14336, .bf16⟩
  | .hbm, ⟨6, _⟩ => ⟨S128x4096, .i8⟩
  | .hbm, ⟨7, _⟩ => ⟨S1x128, .f32⟩
  | .hbm, ⟨8, _⟩ => ⟨S128x14336, .i8⟩
  | .hbm, ⟨9, _⟩ => ⟨S1x128, .f32⟩
  | .hbm, ⟨10, _⟩ => ⟨S1x128x14336, .bf16⟩
  | .hbm, ⟨11, _⟩ => ⟨S1x128x4096, .i8⟩
  | .hbm, ⟨12, _⟩ => ⟨S1x128x14336, .i8⟩
  | .local _ .vmem, ⟨0, _⟩ => ⟨S128x4096, .bf16⟩
  | .local _ .vmem, ⟨1, _⟩ => ⟨S4096x512, .i8⟩
  | .local _ .vmem, ⟨2, _⟩ => ⟨S4096x512, .i8⟩
  | .local _ .vmem, ⟨3, _⟩ => ⟨S1x512, .f32⟩
  | .local _ .vmem, ⟨4, _⟩ => ⟨S1x512, .f32⟩
  | .local _ .vmem, ⟨5, _⟩ => ⟨S128x512, .bf16⟩
  | .local _ .vmem, ⟨6, _⟩ => ⟨S128x512, .bf16⟩
  | .local _ .vmem, ⟨7, _⟩ => ⟨S128x4096, .i8⟩
  | .local _ .vmem, ⟨8, _⟩ => ⟨S1x128, .f32⟩
  | .local _ .vmem, ⟨9, _⟩ => ⟨S128x14336, .i8⟩
  | .local _ .vmem, ⟨10, _⟩ => ⟨S1x128, .f32⟩
  | .local _ .vmem, ⟨11, _⟩ => ⟨S128x4096, .bf16⟩
  | .local _ .vmem, ⟨12, _⟩ => ⟨S128x1, .f32⟩
  | .local _ .vmem, ⟨13, _⟩ => ⟨S28x128x512, .f32⟩
  | .local _ .vmem, ⟨14, _⟩ => ⟨S128x1, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![28], ![false]⟩

def k0_off1 (i : grid0.Coords) : Fin 3 → Nat :=
  let arg0 : BitVec 32 := BitVec.ofNat 32 (i 0).val
  let v36 : Index := Scalar.indexCast arg0
  let c0_22 : Index := 0#32
  let c0_23 : Index := 0#32
  ![v36.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c27_i32 : BitVec 32 := 27#32
  let v48 : BitVec 1 := Scalar.cmpi .eq arg0 c27_i32
  let v49 : BitVec 32 := Scalar.extui v48
  let c0_i32_29 : BitVec 32 := 0#32
  let v50 : BitVec 1 := Scalar.cmpi .ne v49 c0_i32_29
  v50

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x4096 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x14336 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x128x4096 : Shape := ⟨3, ![1, 128, 4096]⟩
abbrev S4096x14336 : Shape := ⟨2, ![4096, 14336]⟩
abbrev S14336 : Shape := ⟨1, ![14336]⟩
abbrev S1x128x14336 : Shape := ⟨3, ![1, 128, 14336]⟩
abbrev S1x128 : Shape := ⟨2, ![1, 128]⟩
abbrev S1x128x1 : Shape := ⟨3, ![1, 128, 1]⟩
abbrev S1x128x8x512 : Shape := ⟨4, ![1, 128, 8, 512]⟩
abbrev S8x512x14336 : Shape := ⟨3, ![8, 512, 14336]⟩
abbrev S8x14336x1x128 : Shape := ⟨4, ![8, 14336, 1, 128]⟩
abbrev S1x128x8x14336 : Shape := ⟨4, ![1, 128, 8, 14336]⟩
abbrev S1x1x14336 : Shape := ⟨3, ![1, 1, 14336]⟩

abbrev nBuf : Space → Nat
  | .hbm => 8
  | .vmem => 8
  | .smem => 0
  | _ => 0

abbrev bufTy : (tb : Table) → Fin (tcTables nBuf tb) → BufTy
  | .hbm, ⟨0, _⟩ => ⟨S1x128x4096, .bf16⟩
  | .hbm, ⟨1, _⟩ => ⟨S4096x14336, .i8⟩
  | .hbm, ⟨2, _⟩ => ⟨S14336, .f32⟩
  | .hbm, ⟨3, _⟩ => ⟨S1x128x14336, .bf16⟩
  | .hbm, ⟨4, _⟩ => ⟨S1x128x4096, .i8⟩
  | .hbm, ⟨5, _⟩ => ⟨S1x128, .f32⟩
  | .hbm, ⟨6, _⟩ => ⟨S1x128x14336, .i8⟩
  | .hbm, ⟨7, _⟩ => ⟨S1x128, .f32⟩
  | .local _ .vmem, ⟨0, _⟩ => ⟨S1x128x4096, .bf16⟩
  | .local _ .vmem, ⟨1, _⟩ => ⟨S4096x14336, .i8⟩
  | .local _ .vmem, ⟨2, _⟩ => ⟨S14336, .f32⟩
  | .local _ .vmem, ⟨3, _⟩ => ⟨S1x128x14336, .bf16⟩
  | .local _ .vmem, ⟨4, _⟩ => ⟨S1x128x4096, .i8⟩
  | .local _ .vmem, ⟨5, _⟩ => ⟨S1x128, .f32⟩
  | .local _ .vmem, ⟨6, _⟩ => ⟨S1x128x14336, .i8⟩
  | .local _ .vmem, ⟨7, _⟩ => ⟨S1x128, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x14336 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128x14336 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128x4096 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128x14336 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Setup.lean ====
/- What the runs of the kernel's body share: its branch conditions by the grid point, the memrefs a point runs on, and the
   invariant of the launch with the four scratch buffers named. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, k0_cond1, e0]
    word_cmp
   : ∀ t : Fin grid0.N, cond0_0 (grid0.coords t) ↔ t.val % 28 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 28 = 27 :=
  (fun t => by
    have ht : t.val < 28 := Nat.lt_of_lt_of_eq t.isLt N_0
    have e0 : (grid0.coords t 0).val = t.val / 1 % 28 := Pipeline.Grid.coords_val t 0 (by decide) rfl
    simp only [cond0_1, k0_cond2, e0]
    word_cmp
   : ∀ t : Fin grid0.N, cond0_1 (grid0.coords t) ↔ t.val % 28 = 27)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x4096 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x14336 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x4096 .bf16 := Memref.whole cc0_scratch0
abbrev scM0_1 : Memref sig .tc .vmem S128x1 .f32 := Memref.whole cc0_scratch1
abbrev scM0_2 : Memref sig .tc .vmem S28x128x512 .f32 := Memref.whole cc0_scratch2
abbrev scM0_3 : Memref sig .tc .vmem S128x1 .f32 := Memref.whole cc0_scratch3
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Body

end
-- ==== Proof.Contents.lean ====
/- What one grid point computes, as plain functions of the blocks it reads and of the scratch buffers it finds. -/
module

public import proofs.«01_k».proof.Proof.Setup
public import Idealize.ShloMosaic.Lib.VecWindow
public import Idealize.ShloMosaic.Lib.WholeRead
public import Idealize.ShloMosaic.Lib.Pointwise.Index

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What one point computes -/

/-- The block of scaled products a point computes: the quantised activations `xq` against the point's weight block `w`, in four
    chunks of 1024, times the activations' scales `xs` and the weight block's scales `ws`. -/
def yfBlk (xq : Vec F S128x4096 .bf16) (w : Vec F S4096x512 .i8) (xs : Vec F S128x1 .f32) (ws : Vec F S1x512 .f32) : FVec F S128x512 .f32 :=
  k0_pay1 (k0_pay50
    (View.ld xq (Rect.unit (s := S128x4096) ![0, 0] S128x1024.size inb_S128x4096_S128x1024_0_0))
    (View.ld w (Rect.unit (s := S4096x512) ![0, 0] S1024x512.size inb_S4096x512_S1024x512_0_0))
    (View.ld xq (Rect.unit (s := S128x4096) ![0, 1024] S128x1024.size inb_S128x4096_S128x1024_0_1024))
    (View.ld w (Rect.unit (s := S4096x512) ![1024, 0] S1024x512.size inb_S4096x512_S1024x512_1024_0))
    (View.ld xq (Rect.unit (s := S128x4096) ![0, 2048] S128x1024.size inb_S128x4096_S128x1024_0_2048))
    (View.ld w (Rect.unit (s := S4096x512) ![2048, 0] S1024x512.size inb_S4096x512_S1024x512_2048_0))
    (View.ld xq (Rect.unit (s := S128x4096) ![0, 3072] S128x1024.size inb_S128x4096_S128x1024_0_3072))
    (View.ld w (Rect.unit (s := S4096x512) ![3072, 0] S1024x512.size inb_S4096x512_S1024x512_3072_0))
    xs) (k0_pay51 ws)

/-- The block of `y` a point stores: the scaled products rounded to bfloat16. -/
def yBlk (b : FVec F S128x512 .f32) : FVec F S128x512 .bf16 := truncf .bf16 b bitsLt_bf16_f32

/-- The running row maxima after a point: the larger of those found and the block's own rows' largest absolute values. -/
def maxBlk (b : FVec F S128x512 .f32) (m : Vec F S128x1 .f32) : FVec F S128x1 .f32 :=
  shapeCast S128x1 (maximumf m (shapeCast S128x1
    (multiReduction .maximumf [1] S128 (absf b) 0xFF800000#32 reduces_S128x512_S128 (.inl rfl) rfl) shapeCasts_S128_S128x1)) shapeCasts_S128x1_S128x1

/-- The buffer of all blocks with block `n` replaced. -/
def putSlab (d : Vec F S28x128x512 .f32) (n : ℕ) (b : FVec F S128x512 .f32) : Vec F S28x128x512 .f32 :=
  fun y => if (y 0).val = n then b (ix2 (y 1) (y 2)) else d y

/-- Block `k` of the buffer of all blocks, as the three-axis value a load of it gives. -/
def slab (d : Vec F S28x128x512 .f32) (k : Fin 28) : Vec F S1x128x512 .f32 := fun x => d (ix3 k (x 1) (x 2))

/-- The codes of all columns: each block divided by the row scales, rounded, clamped and converted. -/
def quantAll (s : FVec F S128x1 .f32) (d : Vec F S28x128x512 .f32) : IVec S128x14336 8 :=
  fun y => k0_pay12 s (slab d ⟨(y 1).val / 512, by have := (y 1).isLt; have : (y 1).val < 14336 := this; omega⟩)
    (ix2 (y 0) (⟨(y 1).val % 512, Nat.mod_lt _ (by decide)⟩ : Fin 512))

/-! ## Reading these back through a view -/

/-- A load through a whole memref held at the contents that read `X` is the part of `X` at the load's rectangle. -/
theorem readAt_unread_ld {s : Shape} {e : EltTy} {m : Memref sig .tc .vmem s e} (h : m.IsWhole) (X : s.Idx → Elt F e) (r : Rect s) :
    View.readAt (Elt F) m.view r.toLoadRect (h.unread X) = View.ld X r :=
  funext fun x => congrFun (h.read_unread X) _

/-- A load of the whole memref held at the contents that read `X` is `X`. -/
theorem readAt_unread_full {s : Shape} {e : EltTy} {m : Memref sig .tc .vmem s e} (h : m.IsWhole) (X : s.Idx → Elt F e)
    {off : Fin s.rank → ℕ} (inb : ∀ a, off a + s.size a ≤ s.size a) :
    View.readAt (Elt F) m.view (Rect.unit off s.size inb).toLoadRect (h.unread X) = X :=
  (View.readAt_full _ _ inb).trans (h.read_unread X)

/-- A load after a store over the whole memref reads the stored value's part at the load's rectangle. -/
theorem readCov_full_ld {s : Shape} {e : EltTy} (v : View sig .tc .vmem s e) {off : Fin s.rank → ℕ} (inb : ∀ a, off a + s.size a ≤ s.size a)
    (w : s.Idx → Elt F e) (L : List (View.Piece (Elt F) s e)) (r : Rect s) :
    v.readCov (⟨Rect.unit off s.size inb, w⟩ :: L) r.toLoadRect = View.ld w r :=
  funext fun x => congrFun (View.read_writes_full v _ inb w L) _

/-- A load of the whole memref after a store over it reads the stored value. -/
theorem readCov_full {s : Shape} {e : EltTy} (v : View sig .tc .vmem s e) {off off' : Fin s.rank → ℕ} (inb : ∀ a, off a + s.size a ≤ s.size a)
    (inb' : ∀ a, off' a + s.size a ≤ s.size a) (w : s.Idx → Elt F e) (L : List (View.Piece (Elt F) s e)) :
    v.readCov (⟨Rect.unit off s.size inb, w⟩ :: L) (Rect.unit off' s.size inb').toLoadRect = w :=
  (View.readAt_full _ _ inb').trans (View.read_writes_full v _ inb w L)

/-- Storing a point's block of scaled products into the buffer of all blocks replaces that block. -/
theorem read_putSlab (i : grid0.Coords) {m : Memref sig .tc .vmem S28x128x512 .f32} (h : m.IsWhole) (d : Vec F S28x128x512 .f32)
    (b : FVec F S128x512 .f32) (w : FVec F S1x128x512 .f32) (hw : w = shapeCast S1x128x512 b shapeCasts_S128x512_S1x128x512) :
    m.view.read (Elt F) (m.view.writes (Elt F) (h.unread d) [⟨Rect.unit (s := S28x128x512) (k0_off1 i) S1x128x512.size (k0_off1_inb i), w⟩])
      = putSlab d (i 0).val b := by
  rw [View.read_writes_cons_put _ _ _ _ _ (k0_off1_eq i), View.writes_nil, h.read_unread]
  subst hw
  funext y
  unfold VecWindow.put putSlab
  have h1 := (y 1).isLt
  have h2 := (y 2).isLt
  by_cases hy : (y 0).val = (i 0).val
  · rw [if_pos hy, dif_pos]
    · refine (shapeCast_addUnit_apply ![128, 512] b _ _).trans (congrArg b (funext fun a => Fin.ext ?_))
      fin_cases a
      · exact Nat.sub_zero _
      · exact Nat.sub_zero _
    · intro a
      fin_cases a
      · exact ⟨hy.ge, (Nat.lt_succ_of_le hy.le : (y 0).val < (i 0).val + 1)⟩
      · exact ⟨Nat.zero_le _, by simpa using h1⟩
      · exact ⟨Nat.zero_le _, by simpa using h2⟩
  · rw [if_neg hy, dif_neg]
    intro hall
    have := hall 0
    simp at this
    omega

/-- A load of block `k` of the buffer of all blocks. -/
theorem ld_slab (d : Vec F S28x128x512 .f32) (k : Fin 28) {off : Fin 3 → ℕ} (hoff : off = ![k.val, 0, 0])
    (inb : ∀ a, off a + S1x128x512.size a ≤ S28x128x512.size a) :
    View.ld d (Rect.unit (s := S28x128x512) off S1x128x512.size inb) = slab d k := by
  subst hoff
  funext x
  refine congrArg d (funext fun a => Fin.ext ?_)
  have hx : (x 0).val = 0 := Nat.lt_one_iff.mp (x 0).isLt
  fin_cases a
  · show k.val + 1 * (x 0).val = k.val
    omega
  · show 0 + 1 * (x 1).val = (x 1).val
    omega
  · show 0 + 1 * (x 2).val = (x 2).val
    omega

/-- A load of block `k` of the buffer of all blocks through a view that reads it. -/
theorem readAt_slab (v : View sig .tc .vmem S28x128x512 .f32) (f : v.ty.Contents (Elt F)) (d : Vec F S28x128x512 .f32) (h : v.read (Elt F) f = d)
    (k : Fin 28) {off : Fin 3 → ℕ} (hoff : off = ![k.val, 0, 0]) (inb : ∀ a, off a + S1x128x512.size a ≤ S28x128x512.size a) :
    View.readAt (Elt F) v (Rect.unit (s := S28x128x512) off S1x128x512.size inb).toLoadRect f = slab d k :=
  (congrArg (fun d' => View.ld d' (Rect.unit (s := S28x128x512) off S1x128x512.size inb)) h).trans (ld_slab d k hoff inb)

/-- The codes of all columns at a column block: that block's codes. -/
theorem quantAll_emb (s : FVec F S128x1 .f32) (d : Vec F S28x128x512 .f32) (k : Fin 28) {off : Fin 2 → ℕ} (hoff : off = ![0, 512 * k.val])
    (inb : ∀ a, off a + S128x512.size a ≤ S128x14336.size a) (x : S128x512.Idx) :
    k0_pay12 s (slab d k) x = quantAll s d ((Rect.unit (s := S128x14336) off S128x512.size inb).emb x) := by
  subst hoff
  have h1 : (x 1).val < 512 := (x 1).isLt
  unfold quantAll
  have e0 : (((Rect.unit (s := S128x14336) ![0, 512 * k.val] S128x512.size inb).emb x) 0).val = (x 0).val := by
    show 0 + 1 * (x 0).val = _
    omega
  have e1 : (((Rect.unit (s := S128x14336) ![0, 512 * k.val] S128x512.size inb).emb x) 1).val = 512 * k.val + (x 1).val := by
    show 512 * k.val + 1 * (x 1).val = _
    omega
  congr 1
  · congr 1
    congr 1
    refine Fin.ext ?_
    show k.val = _ / 512
    rw [e1]; omega
  · funext a
    refine Fin.ext ?_
    fin_cases a
    · exact e0.symm
    · show (x 1).val = _ % 512
      rw [e1]; omega

end Cert.KernelIdeal.Body

end
-- ==== Proof.RunA.lean ====
/- The body's run at the first grid point. -/
module

public import proofs.«01_k».proof.Proof.Contents

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- At the first point the body also quantises the activations: it stores their codes and scales, keeps the codes as bfloat16
    and the scales as a column in its scratch buffers, and starts the running row maxima at zero. -/
theorem runA (c : Dev nD) (i : grid0.Coords) (arg1 : Memref sig .tc .vmem S128x4096 .bf16) (harg1 : arg1.IsWhole) (arg2 : Memref sig .tc .vmem S4096x512 .i8) (harg2 : arg2.IsWhole) (arg3 : Memref sig .tc .vmem S1x512 .f32) (harg3 : arg3.IsWhole) (arg4 : Memref sig .tc .vmem S128x512 .bf16) (harg4 : arg4.IsWhole) (arg5 : Memref sig .tc .vmem S128x4096 .i8) (harg5 : arg5.IsWhole) (arg6 : Memref sig .tc .vmem S1x128 .f32) (harg6 : arg6.IsWhole) (arg7 : Memref sig .tc .vmem S128x14336 .i8) (harg7 : arg7.IsWhole) (arg8 : Memref sig .tc .vmem S1x128 .f32) (harg8 : arg8.IsWhole) (arg9 : Memref sig .tc .vmem S128x4096 .bf16) (harg9 : arg9.IsWhole) (arg10 : Memref sig .tc .vmem S128x1 .f32) (harg10 : arg10.IsWhole) (arg11 : Memref sig .tc .vmem S28x128x512 .f32) (harg11 : arg11.IsWhole) (arg12 : Memref sig .tc .vmem S128x1 .f32) (harg12 : arg12.IsWhole) (hc0 : cond0_0 i) (hc1 : ¬cond0_1 i)
    (x0 : Vec F S128x4096 .bf16) (x1 : Vec F S4096x512 .i8) (x2 : Vec F S1x512 .f32) (x4 : Vec F S128x4096 .i8) (x5 : Vec F S1x128 .f32) (x6 : Vec F S128x14336 .i8) (x7 : Vec F S1x128 .f32)
    (xs0 : Vec F S128x4096 .bf16) (xs1 : Vec F S128x1 .f32) (xs2 : Vec F S28x128x512 .f32) (xs3 : Vec F S128x1 .f32) (E : Set ℕ) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare (yBlk (yfBlk (k0_pay46 x0) x1 (k0_pay47 x0) x2)) ∗ owns (c : Thread nD τ) arg5 fullShare (k0_pay45 x0) ∗ owns (c : Thread nD τ) arg6 fullShare (k0_pay48 x0) ∗ owns (c : Thread nD τ) arg7 fullShare x6 ∗ owns (c : Thread nD τ) arg8 fullShare x7 ∗ owns (c : Thread nD τ) arg9 fullShare (k0_pay46 x0) ∗ owns (c : Thread nD τ) arg10 fullShare (k0_pay47 x0) ∗ owns (c : Thread nD τ) arg11 fullShare (putSlab xs2 (i 0).val (yfBlk (k0_pay46 x0) x1 (k0_pay47 x0) x2)) ∗ owns (c : Thread nD τ) arg12 fullShare (maxBlk (yfBlk (k0_pay46 x0) x1 (k0_pay47 x0) x2) (k0_pay49 (F := F)))) -∗ K ⟨⟩))
          ⊢ wp frame (wpE (defs₀ (F := F)) Variants.none c none) E (cc0_w8a8_linear_requant i arg1 harg1 arg2 harg2 arg3 harg3 arg4 harg4 arg5 harg5 arg6 harg6 arg7 harg7 arg8 harg8 arg9 harg9 arg10 harg10 arg11 harg11 arg12 harg12) K := by
    simp only [cc0_w8a8_linear_requant_eq_skeleton]; unfold cc0_w8a8_linear_requant_skel
    simp only [k0_part10_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, H6, H7, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg9.eq_unread hfs0; obtain rfl := harg10.eq_unread hfs1; obtain rfl := harg11.eq_unread hfs2; obtain rfl := harg12.eq_unread hfs3
    sl_exec (disch := first | sl_exact hc0 | sl_exact hc1)
    sl_step
    iapply Hk
    have e0 : View.readAt (Elt F) arg1.view (Rect.unit (s := S128x4096) ![0, 0] S128x4096.size inb_S128x4096_S128x4096_0_0).toLoadRect (harg1.unread x0) = x0 :=
      readAt_unread_full harg1 x0 inb_S128x4096_S128x4096_0_0
    have eS0 : runA.sl.HS0_1 c arg1 harg1 x0 = [⟨Rect.unit (s := S128x4096) ![0, 0] S128x4096.size inb_S128x4096_S128x4096_0_0, k0_pay46 x0⟩] := by
      unfold runA.sl.HS0_1; rw [e0]
    have eS1 : runA.sl.HS1_1 c arg1 harg1 x0 = [⟨Rect.unit (s := S128x1) ![0, 0] S128x1.size inb_S128x1_S128x1_0_0, k0_pay47 x0⟩] := by
      unfold runA.sl.HS1_1; rw [e0]
    have em : runA.sl.v40 (F := F) c arg12 = k0_pay49 := by
      unfold runA.sl.v40 runA.sl.HS3_1
      exact readCov_full _ _ _ _ _
    have eyf : k0_pay1 (runA.sl.r c arg1 harg1 arg2 harg2 arg9 arg10 x0 x1) (runA.sl.r_1 c arg3 harg3 x2) = yfBlk (k0_pay46 x0) x1 (k0_pay47 x0) x2 := by
      unfold runA.sl.r runA.sl.r_1 yfBlk runA.sl.v3 runA.sl.v8 runA.sl.v14 runA.sl.v20 runA.sl.v27
      have l1 := readCov_full arg10.view inb_S128x1_S128x1_0_0 inb_S128x1_S128x1_0_0 (k0_pay47 x0) []
      have l2 := readAt_unread_full harg3 x2 inb_S1x512_S1x512_0_0
      rw [eS0, eS1, l1, l2]
      rw [readCov_full_ld arg9.view inb_S128x4096_S128x4096_0_0 (k0_pay46 x0) [] (Rect.unit (s := S128x4096) ![0, 0] S128x1024.size inb_S128x4096_S128x1024_0_0), readAt_unread_ld harg2 x1 (Rect.unit (s := S4096x512) ![0, 0] S1024x512.size inb_S4096x512_S1024x512_0_0)]
      rw [readCov_full_ld arg9.view inb_S128x4096_S128x4096_0_0 (k0_pay46 x0) [] (Rect.unit (s := S128x4096) ![0, 1024] S128x1024.size inb_S128x4096_S128x1024_0_1024), readAt_unread_ld harg2 x1 (Rect.unit (s := S4096x512) ![1024, 0] S1024x512.size inb_S4096x512_S1024x512_1024_0)]
      rw [readCov_full_ld arg9.view inb_S128x4096_S128x4096_0_0 (k0_pay46 x0) [] (Rect.unit (s := S128x4096) ![0, 2048] S128x1024.size inb_S128x4096_S128x1024_0_2048), readAt_unread_ld harg2 x1 (Rect.unit (s := S4096x512) ![2048, 0] S1024x512.size inb_S4096x512_S1024x512_2048_0)]
      rw [readCov_full_ld arg9.view inb_S128x4096_S128x4096_0_0 (k0_pay46 x0) [] (Rect.unit (s := S128x4096) ![0, 3072] S128x1024.size inb_S128x4096_S128x1024_0_3072), readAt_unread_ld harg2 x1 (Rect.unit (s := S4096x512) ![3072, 0] S1024x512.size inb_S4096x512_S1024x512_3072_0)]
    isplitl [H0]
    · iexists _; isplitr; swap; · iexact H0
      ipureintro
      exact harg1.read_unread _
    isplitl [H1]
    · iexists _; isplitr; swap; · iexact H1
      ipureintro
      exact harg2.read_unread _
    isplitl [H2]
    · iexists _; isplitr; swap; · iexact H2
      ipureintro
      exact harg3.read_unread _
    isplitl [H3]
    · iexists _; isplitr; swap; · iexact H3
      ipureintro
      exact (View.read_writes_full _ _ _ _ _).trans (congrArg yBlk eyf)
    isplitl [H4]
    · iexists _; isplitr; swap; · iexact H4
      ipureintro
      exact (View.read_writes_full _ _ _ _ _).trans (congrArg k0_pay45 e0)
    isplitl [H5]
    · iexists _; isplitr; swap; · iexact H5
      ipureintro
      exact (View.read_writes_full _ _ _ _ _).trans (congrArg k0_pay48 e0)
    isplitl [H6]
    · iexact H6
    isplitl [H7]
    · iexact H7
    isplitl [HS0]
    · iexists _; isplitr; swap; · iexact HS0
      ipureintro
      rw [eS0]; exact View.read_writes_full _ _ _ _ _
    isplitl [HS1]
    · iexists _; isplitr; swap; · iexact HS1
      ipureintro
      rw [eS1]; exact View.read_writes_full _ _ _ _ _
    isplitl [HS2]
    · iexists _; isplitr; swap; · iexact HS2
      ipureintro
      exact read_putSlab i harg11 xs2 _ _ (congrArg (fun b => shapeCast S1x128x512 b shapeCasts_S128x512_S1x128x512) eyf)
    iexists _; isplitr; swap; · iexact HS3
    ipureintro
    exact (View.read_writes_full _ _ _ _ _).trans (congrArg₂ maxBlk eyf em)

end Cert.KernelIdeal.Body

end
-- ==== Proof.RunB.lean ====
/- The body's run at a middle grid point. -/
module

public import proofs.«01_k».proof.Proof.Contents
public import proofs.«01_k».proof.Proof.RunA

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- At a middle point the body stores the point's block of `y`, puts the block of scaled products into the buffer of all
    blocks and raises the running row maxima; it leaves everything else as found. -/
theorem runB (c : Dev nD) (i : grid0.Coords) (arg1 : Memref sig .tc .vmem S128x4096 .bf16) (harg1 : arg1.IsWhole) (arg2 : Memref sig .tc .vmem S4096x512 .i8) (harg2 : arg2.IsWhole) (arg3 : Memref sig .tc .vmem S1x512 .f32) (harg3 : arg3.IsWhole) (arg4 : Memref sig .tc .vmem S128x512 .bf16) (harg4 : arg4.IsWhole) (arg5 : Memref sig .tc .vmem S128x4096 .i8) (harg5 : arg5.IsWhole) (arg6 : Memref sig .tc .vmem S1x128 .f32) (harg6 : arg6.IsWhole) (arg7 : Memref sig .tc .vmem S128x14336 .i8) (harg7 : arg7.IsWhole) (arg8 : Memref sig .tc .vmem S1x128 .f32) (harg8 : arg8.IsWhole) (arg9 : Memref sig .tc .vmem S128x4096 .bf16) (harg9 : arg9.IsWhole) (arg10 : Memref sig .tc .vmem S128x1 .f32) (harg10 : arg10.IsWhole) (arg11 : Memref sig .tc .vmem S28x128x512 .f32) (harg11 : arg11.IsWhole) (arg12 : Memref sig .tc .vmem S128x1 .f32) (harg12 : arg12.IsWhole) (hc0 : ¬cond0_0 i) (hc1 : ¬cond0_1 i)
    (x0 : Vec F S128x4096 .bf16) (x1 : Vec F S4096x512 .i8) (x2 : Vec F S1x512 .f32) (x4 : Vec F S128x4096 .i8) (x5 : Vec F S1x128 .f32) (x6 : Vec F S128x14336 .i8) (x7 : Vec F S1x128 .f32)
    (xs0 : Vec F S128x4096 .bf16) (xs1 : Vec F S128x1 .f32) (xs2 : Vec F S28x128x512 .f32) (xs3 : Vec F S128x1 .f32) (E : Set ℕ) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare (yBlk (yfBlk xs0 x1 xs1 x2)) ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xs0 ∗ owns (c : Thread nD τ) arg10 fullShare xs1 ∗ owns (c : Thread nD τ) arg11 fullShare (putSlab xs2 (i 0).val (yfBlk xs0 x1 xs1 x2)) ∗ owns (c : Thread nD τ) arg12 fullShare (maxBlk (yfBlk xs0 x1 xs1 x2) xs3)) -∗ K ⟨⟩))
          ⊢ wp frame (wpE (defs₀ (F := F)) Variants.none c none) E (cc0_w8a8_linear_requant i arg1 harg1 arg2 harg2 arg3 harg3 arg4 harg4 arg5 harg5 arg6 harg6 arg7 harg7 arg8 harg8 arg9 harg9 arg10 harg10 arg11 harg11 arg12 harg12) K := by
    simp only [cc0_w8a8_linear_requant_eq_skeleton]; unfold cc0_w8a8_linear_requant_skel
    simp only [k0_part10_eq_skeleton]
    unfold owns
    iintro ⟨⟨%f0, %hf0, H0⟩, ⟨%f1, %hf1, H1⟩, ⟨%f2, %hf2, H2⟩, ⟨%d3, %f3, -, H3⟩, H4, H5, H6, H7, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg9.eq_unread hfs0; obtain rfl := harg10.eq_unread hfs1; obtain rfl := harg11.eq_unread hfs2; obtain rfl := harg12.eq_unread hfs3
    sl_exec (disch := first | sl_exact hc0 | sl_exact hc1)
    sl_step
    iapply Hk
    have eyf : k0_pay1 (runB.sl.r c arg2 harg2 arg9 harg9 arg10 harg10 x1 xs0 xs1) (runB.sl.r_1 c arg3 harg3 x2) = yfBlk xs0 x1 xs1 x2 := by
      unfold runB.sl.r runB.sl.r_1 yfBlk
      have l1 := readAt_unread_full harg10 xs1 inb_S128x1_S128x1_0_0
      have l2 := readAt_unread_full harg3 x2 inb_S1x512_S1x512_0_0
      rw [l1, l2]
      rw [readAt_unread_ld harg9 xs0 (Rect.unit (s := S128x4096) ![0, 0] S128x1024.size inb_S128x4096_S128x1024_0_0), readAt_unread_ld harg2 x1 (Rect.unit (s := S4096x512) ![0, 0] S1024x512.size inb_S4096x512_S1024x512_0_0)]
      rw [readAt_unread_ld harg9 xs0 (Rect.unit (s := S128x4096) ![0, 1024] S128x1024.size inb_S128x4096_S128x1024_0_1024), readAt_unread_ld harg2 x1 (Rect.unit (s := S4096x512) ![1024, 0] S1024x512.size inb_S4096x512_S1024x512_1024_0)]
      rw [readAt_unread_ld harg9 xs0 (Rect.unit (s := S128x4096) ![0, 2048] S128x1024.size inb_S128x4096_S128x1024_0_2048), readAt_unread_ld harg2 x1 (Rect.unit (s := S4096x512) ![2048, 0] S1024x512.size inb_S4096x512_S1024x512_2048_0)]
      rw [readAt_unread_ld harg9 xs0 (Rect.unit (s := S128x4096) ![0, 3072] S128x1024.size inb_S128x4096_S128x1024_0_3072), readAt_unread_ld harg2 x1 (Rect.unit (s := S4096x512) ![3072, 0] S1024x512.size inb_S4096x512_S1024x512_3072_0)]
    isplitl [H0]
    · iexists _; isplitr; swap; · iexact H0
      ipureintro
      exact harg1.read_unread _
    isplitl [H1]
    · iexists _; isplitr; swap; · iexact H1
      ipureintro
      exact harg2.read_unread _
    isplitl [H2]
    · iexists _; isplitr; swap; · iexact H2
      ipureintro
      exact harg3.read_unread _
    isplitl [H3]
    · iexists _; isplitr; swap; · iexact H3
      ipureintro
      exact (View.read_writes_full _ _ _ _ _).trans (congrArg yBlk eyf)
    isplitl [H4]
    · iexact H4
    isplitl [H5]
    · iexact H5
    isplitl [H6]
    · iexact H6
    isplitl [H7]
    · iexact H7
    isplitl [HS0]
    · iexists _; isplitr; swap; · iexact HS0
      ipureintro
      exact harg9.read_unread _
    isplitl [HS1]
    · iexists _; isplitr; swap; · iexact HS1
      ipureintro
      exact harg10.read_unread _
    isplitl [HS2]
    · iexists _; isplitr; swap; · iexact HS2
      ipureintro
      exact read_putSlab i harg11 xs2 _ _ (congrArg (fun b => shapeCast S1x128x512 b shapeCasts_S128x512_S1x128x512) eyf)
    iexists _; isplitr; swap; · iexact HS3
    ipureintro
    exact (View.read_writes_full _ _ _ _ _).trans (congrArg₂ maxBlk eyf (readAt_unread_full harg12 xs3 inb_S128x1_S128x1_0_0))

end Cert.KernelIdeal.Body

end
-- ==== Proof.RunC.lean ====
/- The body's run at the last grid point. -/
module

public import proofs.«01_k».proof.Proof.RunB

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 8000000 in
/-- At the last point the body also stores the codes of all columns, made with the scales of the finished row maxima, and those
    scales. -/
theorem runC (c : Dev nD) (i : grid0.Coords) (arg1 : Memref sig .tc .vmem S128x4096 .bf16) (harg1 : arg1.IsWhole) (arg2 : Memref sig .tc .vmem S4096x512 .i8) (harg2 : arg2.IsWhole) (arg3 : Memref sig .tc .vmem S1x512 .f32) (harg3 : arg3.IsWhole) (arg4 : Memref sig .tc .vmem S128x512 .bf16) (harg4 : arg4.IsWhole) (arg5 : Memref sig .tc .vmem S128x4096 .i8) (harg5 : arg5.IsWhole) (arg6 : Memref sig .tc .vmem S1x128 .f32) (harg6 : arg6.IsWhole) (arg7 : Memref sig .tc .vmem S128x14336 .i8) (harg7 : arg7.IsWhole) (arg8 : Memref sig .tc .vmem S1x128 .f32) (harg8 : arg8.IsWhole) (arg9 : Memref sig .tc .vmem S128x4096 .bf16) (harg9 : arg9.IsWhole) (arg10 : Memref sig .tc .vmem S128x1 .f32) (harg10 : arg10.IsWhole) (arg11 : Memref sig .tc .vmem S28x128x512 .f32) (harg11 : arg11.IsWhole) (arg12 : Memref sig .tc .vmem S128x1 .f32) (harg12 : arg12.IsWhole) (hc0 : ¬cond0_0 i) (hc1 : cond0_1 i)
    (x0 : Vec F S128x4096 .bf16) (x1 : Vec F S4096x512 .i8) (x2 : Vec F S1x512 .f32) (x4 : Vec F S128x4096 .i8) (x5 : Vec F S1x128 .f32) (x6 : Vec F S128x14336 .i8) (x7 : Vec F S1x128 .f32)
    (xs0 : Vec F S128x4096 .bf16) (xs1 : Vec F S128x1 .f32) (xs2 : Vec F S28x128x512 .f32) (xs3 : Vec F S128x1 .f32) (E : Set ℕ) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare (yBlk (yfBlk xs0 x1 xs1 x2)) ∗ owns (c : Thread nD τ) arg5 fullShare x4 ∗ owns (c : Thread nD τ) arg6 fullShare x5 ∗ owns (c : Thread nD τ) arg7 fullShare (quantAll (k0_pay6 (maxBlk (yfBlk xs0 x1 xs1 x2) xs3)) (putSlab xs2 (i 0).val (yfBlk xs0 x1 xs1 x2))) ∗ owns (c : Thread nD τ) arg8 fullShare (k0_pay7 (maxBlk (yfBlk xs0 x1 xs1 x2) xs3)) ∗ owns (c : Thread nD τ) arg9 fullShare xs0 ∗ owns (c : Thread nD τ) arg10 fullShare xs1 ∗ owns (c : Thread nD τ) arg11 fullShare (putSlab xs2 (i 0).val (yfBlk xs0 x1 xs1 x2)) ∗ owns (c : Thread nD τ) arg12 fullShare (maxBlk (yfBlk xs0 x1 xs1 x2) xs3)) -∗ K ⟨⟩))
          ⊢ wp frame (wpE (defs₀ (F := F)) Variants.none c none) E (cc0_w8a8_linear_requant i arg1 harg1 arg2 harg2 arg3 harg3 arg4 harg4 arg5 harg5 arg6 harg6 arg7 harg7 arg8 harg8 arg9 harg9 arg10 harg10 arg11 harg11 arg12 harg12) K := by
    simp only [cc0_w8a8_linear_requant_eq_skeleton]; unfold cc0_w8a8_linear_requant_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%d3, %f3, -, H3⟩, H4, H5, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg9.eq_unread hfs0; obtain rfl := harg10.eq_unread hfs1; obtain rfl := harg11.eq_unread hfs2; obtain rfl := harg12.eq_unread hfs3
    sl_exec (disch := first | sl_exact hc0 | sl_exact hc1)
    sl_step
    iapply Hk
    have eyf : k0_pay1 (runC.sl.r c arg2 harg2 arg9 harg9 arg10 harg10 x1 xs0 xs1) (runC.sl.r_1 c arg3 harg3 x2) = yfBlk xs0 x1 xs1 x2 := by
      unfold runC.sl.r runC.sl.r_1 yfBlk
      have l1 := readAt_unread_full harg10 xs1 inb_S128x1_S128x1_0_0
      have l2 := readAt_unread_full harg3 x2 inb_S1x512_S1x512_0_0
      rw [l1, l2]
      rw [readAt_unread_ld harg9 xs0 (Rect.unit (s := S128x4096) ![0, 0] S128x1024.size inb_S128x4096_S128x1024_0_0), readAt_unread_ld harg2 x1 (Rect.unit (s := S4096x512) ![0, 0] S1024x512.size inb_S4096x512_S1024x512_0_0)]
      rw [readAt_unread_ld harg9 xs0 (Rect.unit (s := S128x4096) ![0, 1024] S128x1024.size inb_S128x4096_S128x1024_0_1024), readAt_unread_ld harg2 x1 (Rect.unit (s := S4096x512) ![1024, 0] S1024x512.size inb_S4096x512_S1024x512_1024_0)]
      rw [readAt_unread_ld harg9 xs0 (Rect.unit (s := S128x4096) ![0, 2048] S128x1024.size inb_S128x4096_S128x1024_0_2048), readAt_unread_ld harg2 x1 (Rect.unit (s := S4096x512) ![2048, 0] S1024x512.size inb_S4096x512_S1024x512_2048_0)]
      rw [readAt_unread_ld harg9 xs0 (Rect.unit (s := S128x4096) ![0, 3072] S128x1024.size inb_S128x4096_S128x1024_0_3072), readAt_unread_ld harg2 x1 (Rect.unit (s := S4096x512) ![3072, 0] S1024x512.size inb_S4096x512_S1024x512_3072_0)]
    have e51 : runC.sl.v51 c arg2 harg2 arg3 harg3 arg9 harg9 arg10 harg10 arg12 harg12 x1 x2 xs0 xs1 xs3 = maxBlk (yfBlk xs0 x1 xs1 x2) xs3 := by
      unfold runC.sl.v51 runC.sl.HS3_1
      exact (readCov_full _ _ _ _ _).trans (congrArg₂ maxBlk eyf (readAt_unread_full harg12 xs3 inb_S128x1_S128x1_0_0))
    have es : View.read (Elt F) arg11.view (arg11.view.writes (Elt F) (harg11.unread xs2) (runC.sl.HS2_1 c i arg2 harg2 arg3 harg3 arg9 harg9 arg10 harg10 x1 x2 xs0 xs1)) = putSlab xs2 (i 0).val (yfBlk xs0 x1 xs1 x2) := by
      unfold runC.sl.HS2_1
      exact read_putSlab i harg11 xs2 _ _ (congrArg (fun b => shapeCast S1x128x512 b shapeCasts_S128x512_S1x128x512) eyf)
    have s0 : runC.sl.v60 c i arg2 harg2 arg3 harg3 arg9 harg9 arg10 harg10 arg11 harg11 x1 x2 xs0 xs1 xs2 = slab (putSlab xs2 (i 0).val (yfBlk xs0 x1 xs1 x2)) ⟨0, by decide⟩ := by
      unfold runC.sl.v60; exact readAt_slab _ _ _ es ⟨0, by decide⟩ rfl _
    have s1 : runC.sl.v71 c i arg2 harg2 arg3 harg3 arg9 harg9 arg10 harg10 arg11 harg11 x1 x2 xs0 xs1 xs2 = slab (putSlab xs2 (i 0).val (yfBlk xs0 x1 xs1 x2)) ⟨1, by decide⟩ := by
      unfold runC.sl.v71; exact readAt_slab _ _ _ es ⟨1, by decide⟩ rfl _
    have s2 : runC.sl.v82 c i arg2 harg2 arg3 harg3 arg9 harg9 arg10 harg10 arg11 harg11 x1 x2 xs0 xs1 xs2 = slab (putSlab xs2 (i 0).val (yfBlk xs0 x1 xs1 x2)) ⟨2, by decide⟩ := by
      unfold runC.sl.v82; exact readAt_slab _ _ _ es ⟨2, by decide⟩ rfl _
    have s3 : runC.sl.v93 c i arg2 harg2 arg3 harg3 arg9 harg9 arg10 harg10 arg11 harg11 x1 x2 xs0 xs1 xs2 = slab (putSlab xs2 (i 0).val (yfBlk xs0 x1 xs1 x2)) ⟨3, by decide⟩ := by
      unfold runC.sl.v93; exact readAt_slab _ _ _ es ⟨3, by decide⟩ rfl _
    have s4 : runC.sl.v104 c i arg2 harg2 arg3 harg3 arg9 harg9 arg10 harg10 arg11 harg11 x1 x2 xs0 xs1 xs2 = slab (putSlab xs2 (i 0).val (yfBlk xs0 x1 xs1 x2)) ⟨4, by decide⟩ := by
      unfold runC.sl.v104; exact readAt_slab _ _ _ es ⟨4, by decide⟩ rfl _
    have s5 : runC.sl.v115 c i arg2 harg2 arg3 harg3 arg9 harg9 arg10 harg10 arg11 harg11 x1 x2 xs0 xs1 xs2 = slab (putSlab xs2 (i 0).val (yfBlk xs0 x1 xs1 x2)) ⟨5, by decide⟩ := by
      unfold runC.sl.v115; exact readAt_slab _ _ _ es ⟨5, by decide⟩ rfl _
    have s6 : runC.sl.v126 c i arg2 harg2 arg3 harg3 arg9 harg9 arg10 harg10 arg11 harg11 x1 x2 xs0 xs1 xs2 = slab (putSlab xs2 (i 0).val (yfBlk xs0 x1 xs1 x2)) ⟨6, by decide⟩ := by
      unfold runC.sl.v126; exact readAt_slab _ _ _ es ⟨6, by decide⟩ rfl _
    have s7 : runC.sl.v137 c i arg2 harg2 arg3 harg3 arg9 harg9 arg10 harg10 arg11 harg11 x1 x2 xs0 xs1 xs2 = slab (putSlab xs2 (i 0).val (yfBlk xs0 x1 xs1 x2)) ⟨7, by decide⟩ := by
      unfold runC.sl.v137; exact readAt_slab _ _ _ es ⟨7, by decide⟩ rfl _
    have s8 : runC.sl.v148 c i arg2 harg2 arg3 harg3 arg9 harg9 arg10 harg10 arg11 harg11 x1 x2 xs0 xs1 xs2 = slab (putSlab xs2 (i 0).val (yfBlk xs0 x1 xs1 x2)) ⟨8, by decide⟩ := by
      unfold runC.sl.v148; exact readAt_slab _ _ _ es ⟨8, by decide⟩ rfl _
    have s9 : runC.sl.v159 c i arg2 harg2 arg3 harg3 arg9 harg9 arg10 harg10 arg11 harg11 x1 x2 xs0 xs1 xs2 = slab (putSlab xs2 (i 0).val (yfBlk xs0 x1 xs1 x2)) ⟨9, by decide⟩ := by
      unfold runC.sl.v159; exact readAt_slab _ _ _ es ⟨9, by decide⟩ rfl _
    have s10 : runC.sl.v170 c i arg2 harg2 arg3 harg3 arg9 harg9 arg10 harg10 arg11 harg11 x1 x2 xs0 xs1 xs2 = slab (putSlab xs2 (i 0).val (yfBlk xs0 x1 xs1 x2)) ⟨10, by decide⟩ := by
      unfold runC.sl.v170; exact readAt_slab _ _ _ es ⟨10, by decide⟩ rfl _
    have s11 : runC.sl.v181 c i arg2 harg2 arg3 harg3 arg9 harg9 arg10 harg10 arg11 harg11 x1 x2 xs0 xs1 xs2 = slab (putSlab xs2 (i 0).val (yfBlk xs0 x1 xs1 x2)) ⟨11, by decide⟩ := by
      unfold runC.sl.v181; exact readAt_slab _ _ _ es ⟨11, by decide⟩ rfl _
    have s12 : runC.sl.v192 c i arg2 harg2 arg3 harg3 arg9 harg9 arg10 harg10 arg11 harg11 x1 x2 xs0 xs1 xs2 = slab (putSlab xs2 (i 0).val (yfBlk xs0 x1 xs1 x2)) ⟨12, by decide⟩ := by
      unfold runC.sl.v192; exact readAt_slab _ _ _ es ⟨12, by decide⟩ rfl _
    have s13 : runC.sl.v203 c i arg2 harg2 arg3 harg3 arg9 harg9 arg10 harg10 arg11 harg11 x1 x2 xs0 xs1 xs2 = slab (putSlab xs2 (i 0).val (yfBlk xs0 x1 xs1 x2)) ⟨13, by decide⟩ := by
      unfold runC.sl.v203; exact readAt_slab _ _ _ es ⟨13, by decide⟩ rfl _
    have s14 : runC.sl.v214 c i arg2 harg2 arg3 harg3 arg9 harg9 arg10 harg10 arg11 harg11 x1 x2 xs0 xs1 xs2 = slab (putSlab xs2 (i 0).val (yfBlk xs0 x1 xs1 x2)) ⟨14, by decide⟩ := by
      unfold runC.sl.v214; exact readAt_slab _ _ _ es ⟨14, by decide⟩ rfl _
    have s15 : runC.sl.v225 c i arg2 harg2 arg3 harg3 arg9 harg9 arg10 harg10 arg11 harg11 x1 x2 xs0 xs1 xs2 = slab (putSlab xs2 (i 0).val (yfBlk xs0 x1 xs1 x2)) ⟨15, by decide⟩ := by
      unfold runC.sl.v225; exact readAt_slab _ _ _ es ⟨15, by decide⟩ rfl _
    have s16 : runC.sl.v236 c i arg2 harg2 arg3 harg3 arg9 harg9 arg10 harg10 arg11 harg11 x1 x2 xs0 xs1 xs2 = slab (putSlab xs2 (i 0).val (yfBlk xs0 x1 xs1 x2)) ⟨16, by decide⟩ := by
      unfold runC.sl.v236; exact readAt_slab _ _ _ es ⟨16, by decide⟩ rfl _
    have s17 : runC.sl.v247 c i arg2 harg2 arg3 harg3 arg9 harg9 arg10 harg10 arg11 harg11 x1 x2 xs0 xs1 xs2 = slab (putSlab xs2 (i 0).val (yfBlk xs0 x1 xs1 x2)) ⟨17, by decide⟩ := by
      unfold runC.sl.v247; exact readAt_slab _ _ _ es ⟨17, by decide⟩ rfl _
    have s18 : runC.sl.v258 c i arg2 harg2 arg3 harg3 arg9 harg9 arg10 harg10 arg11 harg11 x1 x2 xs0 xs1 xs2 = slab (putSlab xs2 (i 0).val (yfBlk xs0 x1 xs1 x2)) ⟨18, by decide⟩ := by
      unfold runC.sl.v258; exact readAt_slab _ _ _ es ⟨18, by decide⟩ rfl _
    have s19 : runC.sl.v269 c i arg2 harg2 arg3 harg3 arg9 harg9 arg10 harg10 arg11 harg11 x1 x2 xs0 xs1 xs2 = slab (putSlab xs2 (i 0).val (yfBlk xs0 x1 xs1 x2)) ⟨19, by decide⟩ := by
      unfold runC.sl.v269; exact readAt_slab _ _ _ es ⟨19, by decide⟩ rfl _
    have s20 : runC.sl.v280 c i arg2 harg2 arg3 harg3 arg9 harg9 arg10 harg10 arg11 harg11 x1 x2 xs0 xs1 xs2 = slab (putSlab xs2 (i 0).val (yfBlk xs0 x1 xs1 x2)) ⟨20, by decide⟩ := by
      unfold runC.sl.v280; exact readAt_slab _ _ _ es ⟨20, by decide⟩ rfl _
    have s21 : runC.sl.v c i arg2 harg2 arg3 harg3 arg9 harg9 arg10 harg10 arg11 harg11 x1 x2 xs0 xs1 xs2 = slab (putSlab xs2 (i 0).val (yfBlk xs0 x1 xs1 x2)) ⟨21, by decide⟩ := by
      unfold runC.sl.v; exact readAt_slab _ _ _ es ⟨21, by decide⟩ rfl _
    have s22 : runC.sl.v302 c i arg2 harg2 arg3 harg3 arg9 harg9 arg10 harg10 arg11 harg11 x1 x2 xs0 xs1 xs2 = slab (putSlab xs2 (i 0).val (yfBlk xs0 x1 xs1 x2)) ⟨22, by decide⟩ := by
      unfold runC.sl.v302; exact readAt_slab _ _ _ es ⟨22, by decide⟩ rfl _
    have s23 : runC.sl.v313 c i arg2 harg2 arg3 harg3 arg9 harg9 arg10 harg10 arg11 harg11 x1 x2 xs0 xs1 xs2 = slab (putSlab xs2 (i 0).val (yfBlk xs0 x1 xs1 x2)) ⟨23, by decide⟩ := by
      unfold runC.sl.v313; exact readAt_slab _ _ _ es ⟨23, by decide⟩ rfl _
    have s24 : runC.sl.v324 c i arg2 harg2 arg3 harg3 arg9 harg9 arg10 harg10 arg11 harg11 x1 x2 xs0 xs1 xs2 = slab (putSlab xs2 (i 0).val (yfBlk xs0 x1 xs1 x2)) ⟨24, by decide⟩ := by
      unfold runC.sl.v324; exact readAt_slab _ _ _ es ⟨24, by decide⟩ rfl _
    have s25 : runC.sl.v335 c i arg2 harg2 arg3 harg3 arg9 harg9 arg10 harg10 arg11 harg11 x1 x2 xs0 xs1 xs2 = slab (putSlab xs2 (i 0).val (yfBlk xs0 x1 xs1 x2)) ⟨25, by decide⟩ := by
      unfold runC.sl.v335; exact readAt_slab _ _ _ es ⟨25, by decide⟩ rfl _
    have s26 : runC.sl.v346 c i arg2 harg2 arg3 harg3 arg9 harg9 arg10 harg10 arg11 harg11 x1 x2 xs0 xs1 xs2 = slab (putSlab xs2 (i 0).val (yfBlk xs0 x1 xs1 x2)) ⟨26, by decide⟩ := by
      unfold runC.sl.v346; exact readAt_slab _ _ _ es ⟨26, by decide⟩ rfl _
    have s27 : runC.sl.v357 c i arg2 harg2 arg3 harg3 arg9 harg9 arg10 harg10 arg11 harg11 x1 x2 xs0 xs1 xs2 = slab (putSlab xs2 (i 0).val (yfBlk xs0 x1 xs1 x2)) ⟨27, by decide⟩ := by
      unfold runC.sl.v357; exact readAt_slab _ _ _ es ⟨27, by decide⟩ rfl _
    isplitl [H0]
    · iexists _; isplitr; swap; · iexact H0
      ipureintro
      exact harg1.read_unread _
    isplitl [H1]
    · iexists _; isplitr; swap; · iexact H1
      ipureintro
      exact harg2.read_unread _
    isplitl [H2]
    · iexists _; isplitr; swap; · iexact H2
      ipureintro
      exact harg3.read_unread _
    isplitl [H3]
    · iexists _; isplitr; swap; · iexact H3
      ipureintro
      exact (View.read_writes_full _ _ _ _ _).trans (congrArg yBlk eyf)
    isplitl [H4]
    · iexact H4
    isplitl [H5]
    · iexact H5
    isplitl [H6]
    · iexists _; isplitr; swap; · iexact H6
      ipureintro
      unfold runC.sl.r_3 runC.sl.r_4 runC.sl.r_5 runC.sl.r_6 runC.sl.r_7 runC.sl.r_8 runC.sl.r_9 runC.sl.r_2 runC.sl.cst_85 runC.sl.cst_179
      rw [e51, s0, s1, s2, s3, s4, s5, s6, s7, s8, s9, s10, s11, s12, s13, s14, s15, s16, s17, s18, s19, s20, s21, s22, s23, s24, s25, s26, s27]
      refine funext fun y => View.read_writes_apply_of_pieces arg7.view f6 (quantAll (k0_pay6 (maxBlk (yfBlk xs0 x1 xs1 x2) xs3)) (putSlab xs2 (i 0).val (yfBlk xs0 x1 xs1 x2))) _ ?_ y (View.cover_of_tiled (s := S128x14336) _ ![128, 512] (by sl_kernel_rfl) y)
      simp only [List.forall_mem_cons]
      refine ⟨?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
      · exact fun x => quantAll_emb _ _ (⟨27, by decide⟩ : Fin 28) rfl _ x
      · exact fun x => quantAll_emb _ _ (⟨26, by decide⟩ : Fin 28) rfl _ x
      · exact fun x => quantAll_emb _ _ (⟨25, by decide⟩ : Fin 28) rfl _ x
      · exact fun x => quantAll_emb _ _ (⟨24, by decide⟩ : Fin 28) rfl _ x
      · exact fun x => quantAll_emb _ _ (⟨23, by decide⟩ : Fin 28) rfl _ x
      · exact fun x => quantAll_emb _ _ (⟨22, by decide⟩ : Fin 28) rfl _ x
      · exact fun x => quantAll_emb _ _ (⟨21, by decide⟩ : Fin 28) rfl _ x
      · exact fun x => quantAll_emb _ _ (⟨20, by decide⟩ : Fin 28) rfl _ x
      · exact fun x => quantAll_emb _ _ (⟨19, by decide⟩ : Fin 28) rfl _ x
      · exact fun x => quantAll_emb _ _ (⟨18, by decide⟩ : Fin 28) rfl _ x
      · exact fun x => quantAll_emb _ _ (⟨17, by decide⟩ : Fin 28) rfl _ x
      · exact fun x => quantAll_emb _ _ (⟨16, by decide⟩ : Fin 28) rfl _ x
      · exact fun x => quantAll_emb _ _ (⟨15, by decide⟩ : Fin 28) rfl _ x
      · exact fun x => quantAll_emb _ _ (⟨14, by decide⟩ : Fin 28) rfl _ x
      · exact fun x => quantAll_emb _ _ (⟨13, by decide⟩ : Fin 28) rfl _ x
      · exact fun x => quantAll_emb _ _ (⟨12, by decide⟩ : Fin 28) rfl _ x
      · exact fun x => quantAll_emb _ _ (⟨11, by decide⟩ : Fin 28) rfl _ x
      · exact fun x => quantAll_emb _ _ (⟨10, by decide⟩ : Fin 28) rfl _ x
      · exact fun x => quantAll_emb _ _ (⟨9, by decide⟩ : Fin 28) rfl _ x
      · exact fun x => quantAll_emb _ _ (⟨8, by decide⟩ : Fin 28) rfl _ x
      · exact fun x => quantAll_emb _ _ (⟨7, by decide⟩ : Fin 28) rfl _ x
      · exact fun x => quantAll_emb _ _ (⟨6, by decide⟩ : Fin 28) rfl _ x
      · exact fun x => quantAll_emb _ _ (⟨5, by decide⟩ : Fin 28) rfl _ x
      · exact fun x => quantAll_emb _ _ (⟨4, by decide⟩ : Fin 28) rfl _ x
      · exact fun x => quantAll_emb _ _ (⟨3, by decide⟩ : Fin 28) rfl _ x
      · exact fun x => quantAll_emb _ _ (⟨2, by decide⟩ : Fin 28) rfl _ x
      · exact fun x => quantAll_emb _ _ (⟨1, by decide⟩ : Fin 28) rfl _ x
      · exact fun x => quantAll_emb _ _ (⟨0, by decide⟩ : Fin 28) rfl _ x

    isplitl [H7]
    · iexists _; isplitr; swap; · iexact H7
      ipureintro
      exact (View.read_writes_full _ _ _ _ _).trans (congrArg k0_pay7 e51)
    isplitl [HS0]
    · iexists _; isplitr; swap; · iexact HS0
      ipureintro
      exact harg9.read_unread _
    isplitl [HS1]
    · iexists _; isplitr; swap; · iexact HS1
      ipureintro
      exact harg10.read_unread _
    isplitl [HS2]
    · iexists _; isplitr; swap; · iexact HS2
      ipureintro
      exact es
    iexists _; isplitr; swap; · iexact HS3
    ipureintro
    unfold runC.sl.HS3_1; exact (View.read_writes_full _ _ _ _ _).trans (congrArg₂ maxBlk eyf (readAt_unread_full harg12 xs3 inb_S128x1_S128x1_0_0))

end Cert.KernelIdeal.Body

end
-- ==== Proof.Launch.lean ====
/- The launch: what the grid points compute one after the other, and what every buffer holds when the program has run. -/
module

public import proofs.«01_k».proof.Proof.RunC

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
abbrev firstPt : Fin cfg0.N := ⟨0, lt_of_lt_of_eq (by decide : 0 < 28) (show 28 = cfg0.N from N_0.symm)⟩

/-- A point's grid coordinate is its number. -/
theorem coords_zero (t : Fin cfg0.N) : (grid0.coords t 0).val = t.val := by
  have ht : t.val < 28 := Nat.lt_of_lt_of_eq t.isLt N_0
  have e0 : (grid0.coords t 0).val = t.val / 1 % 28 := Pipeline.Grid.coords_val t 0 (by decide) rfl
  omega

/-! ## What the launch computes, point by point -/

/-- The activations, as the region finds them. -/
def X0 (c : Dev nD) : Vec F S128x4096 .bf16 := iblk m c 0 firstPt
/-- Their block is the same at every point. -/
theorem iblk0_eq (c : Dev nD) (t : Fin cfg0.N) : iblk m c 0 t = X0 m c := rfl

/-- The block of scaled products of point `t`. -/
def YF (c : Dev nD) (t : Fin cfg0.N) : FVec F S128x512 .f32 :=
  yfBlk (k0_pay46 (X0 m c)) (iblk m c 1 t) (k0_pay47 (X0 m c)) (iblk m c 2 t)

/-- The running row maxima before point `n`: zero at first, then raised by every block. -/
def maxN (c : Dev nD) : ℕ → FVec F S128x1 .f32
  | 0 => k0_pay49
  | n + 1 => if h : n < cfg0.N then maxBlk (YF m c ⟨n, h⟩) (maxN c n) else maxN c n

/-- The running row maxima after point `t`. -/
theorem maxN_succ (c : Dev nD) (t : Fin cfg0.N) : maxN m c (t.val + 1) = maxBlk (YF m c t) (maxN m c t.val) := dif_pos t.isLt

/-- All blocks of scaled products. -/
def ALL (c : Dev nD) : Vec F S28x128x512 .f32 :=
  fun y => YF m c ⟨(y 0).val, lt_of_lt_of_eq (y 0).isLt (show 28 = cfg0.N from N_0.symm)⟩ (ix2 (y 1) (y 2))

/-- A buffer that holds the blocks before point `t` holds, with point `t`'s block put in, the blocks up to point `t`. -/
theorem slabs_succ (c : Dev nD) (t : Fin cfg0.N) (d : Vec F S28x128x512 .f32) (hd : ∀ y : S28x128x512.Idx, (y 0).val < t.val → d y = ALL m c y) :
    ∀ y : S28x128x512.Idx, (y 0).val < t.val + 1 → putSlab d t.val (YF m c t) y = ALL m c y := by
  intro y hy
  unfold putSlab
  by_cases h : (y 0).val = t.val
  · rw [if_pos h]
    obtain ⟨t, ht⟩ := t
    dsimp only at h
    subst h
    rfl
  · rw [if_neg h]
    exact hd y (by omega)

/-- After the last point the buffer holds all blocks. -/
theorem final_slabs (c : Dev nD) (t : Fin cfg0.N) (ht : t.val % 28 = 27) (d : Vec F S28x128x512 .f32) (hd : ∀ y : S28x128x512.Idx, (y 0).val < t.val → d y = ALL m c y) :
    putSlab d t.val (YF m c t) = ALL m c := by
  funext y
  have hN : t.val < 28 := lt_of_lt_of_eq t.isLt (show cfg0.N = 28 from N_0)
  have hy : (y 0).val < 28 := (y 0).isLt
  exact slabs_succ m c t d hd y (by omega)

/-- The invariant before point `n > 0`: the scratch buffers hold the codes of the activations, their scales, the blocks of
    the points before `n`, and the running row maxima. -/
def PhiS (c : Dev nD) : (n : ℕ) → n ≤ cfg0.N → sProp 𝕄
  | 0, _ => Pipeline.ΦA spec0 c
  | n + 1, _ => iprop(iprop(owns (c : Thread nD τ) scM0_0 fullShare (k0_pay46 (X0 m c)) ∗ owns (c : Thread nD τ) scM0_1 fullShare (k0_pay47 (X0 m c))
      ∗ (∃ d, ⌜∀ y : S28x128x512.Idx, (y 0).val < n + 1 → d y = ALL m c y⌝ ∗ owns (c : Thread nD τ) scM0_2 fullShare d)
      ∗ owns (c : Thread nD τ) scM0_3 fullShare (maxN m c (n + 1))) ∗ (∃ r, prngReg c r))

/-- Before the first point the scratch buffers hold anything. -/
theorem PhiS_zero (c : Dev nD) (n : ℕ) (h : n ≤ cfg0.N) (hz : n = 0) : PhiS m c n h = Pipeline.ΦA spec0 c := by
  subst hz; rfl

/-- The invariant after point `n`. -/
theorem PhiS_succ (c : Dev nD) (n : ℕ) (hn : n < cfg0.N) :
    PhiS m c (n + 1) hn = iprop(iprop(owns (c : Thread nD τ) scM0_0 fullShare (k0_pay46 (X0 m c)) ∗ owns (c : Thread nD τ) scM0_1 fullShare (k0_pay47 (X0 m c))
      ∗ (∃ d, ⌜∀ y : S28x128x512.Idx, (y 0).val < n + 1 → d y = ALL m c y⌝ ∗ owns (c : Thread nD τ) scM0_2 fullShare d)
      ∗ owns (c : Thread nD τ) scM0_3 fullShare (maxN m c (n + 1))) ∗ (∃ r, prngReg c r)) := rfl

/-- The invariant before a point that is not the first. -/
theorem PhiS_pos (c : Dev nD) (n : ℕ) (h : n ≤ cfg0.N) (hz : n ≠ 0) :
    PhiS m c n h = iprop(iprop(owns (c : Thread nD τ) scM0_0 fullShare (k0_pay46 (X0 m c)) ∗ owns (c : Thread nD τ) scM0_1 fullShare (k0_pay47 (X0 m c))
      ∗ (∃ d, ⌜∀ y : S28x128x512.Idx, (y 0).val < n → d y = ALL m c y⌝ ∗ owns (c : Thread nD τ) scM0_2 fullShare d)
      ∗ owns (c : Thread nD τ) scM0_3 fullShare (maxN m c n)) ∗ (∃ r, prngReg c r)) := by
  cases n with
  | zero => exact absurd rfl hz
  | succ n => rfl

/-! ## The pipeline's proof data -/

/-- The proof data of the pipeline on core `c`: the arrays as the region finds them; after the body at point `t` each input's
    buffer at its block, the `y` window at the point's block of `y`, and the four whole results at their final values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yBlk (YF m c t)
    | ⟨4, _⟩ => k0_pay45 (X0 m c)
    | ⟨5, _⟩ => k0_pay48 (X0 m c)
    | ⟨6, _⟩ => quantAll (k0_pay6 (maxN m c 28)) (ALL m c)
    | ⟨7, _⟩ => k0_pay7 (maxN m c 28)
  Φ t := PhiS m c t.val (Nat.le_of_lt_succ t.isLt)
  q _ := fullShare
  owed _ := 0

/-- The proof data's arrays are the contents the region is entered with. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = yBlk (YF m c t) := by dsimp only [dats]
/-- What the body leaves in window 4. -/
theorem after0_4 (c : Dev nD) (t : Fin cfg0.N) : (dats m 0 c).after 4 t = k0_pay45 (X0 m c) := by dsimp only [dats]
/-- What the body leaves in window 5. -/
theorem after0_5 (c : Dev nD) (t : Fin cfg0.N) : (dats m 0 c).after 5 t = k0_pay48 (X0 m c) := by dsimp only [dats]
/-- What the body leaves in window 6. -/
theorem after0_6 (c : Dev nD) (t : Fin cfg0.N) : (dats m 0 c).after 6 t = quantAll (k0_pay6 (maxN m c 28)) (ALL m c) := by dsimp only [dats]
/-- What the body leaves in window 7. -/
theorem after0_7 (c : Dev nD) (t : Fin cfg0.N) : (dats m 0 c).after 7 t = k0_pay7 (maxN m c 28) := by dsimp only [dats]

/-- The activations' buffer holds its block at every point. -/
theorem before0_0 (c : Dev nD) (t : Fin cfg0.N) (d) : (dats m 0 c).before 0 t d = iblk m c 0 t :=
  before0_0_of m (dats m 0 c) (A_eq m c 0) (after0_0 m c) t d
/-- The weights' buffer holds its block at every point. -/
theorem before0_1 (c : Dev nD) (t : Fin cfg0.N) (d) : (dats m 0 c).before 1 t d = iblk m c 1 t :=
  before0_1_of m (dats m 0 c) (A_eq m c 1) (after0_1 m c) t d
/-- The weights' scales' buffer holds its block at every point. -/
theorem before0_2 (c : Dev nD) (t : Fin cfg0.N) (d) : (dats m 0 c).before 2 t d = iblk m c 2 t :=
  before0_2_of m (dats m 0 c) (A_eq m c 2) (after0_2 m c) t d

/-! ## Where the windows are idle, and where they are written back -/

/-- Window 3 is never idle. -/
theorem liveAt0_3 : ∀ t : Fin cfg0.N, cfg0.idle 3 (grid0.coords t) = false := fun _ => rfl
/-- Window 4 is written at the first point, -/
theorem idle0_4_first (t : Fin cfg0.N) (h : t.val % 28 = 0) : cfg0.idle 4 (grid0.coords t) = false := by
  show (!(k0_cond1 (grid0.coords t) == 1#1)) = false
  rw [show k0_cond1 (grid0.coords t) = 1#1 from (hcond0_0 t).mpr h]; rfl
/-- and at no later one. -/
theorem idle0_4_later (t : Fin cfg0.N) (h : ¬t.val % 28 = 0) : cfg0.idle 4 (grid0.coords t) = true := by
  show (!(k0_cond1 (grid0.coords t) == 1#1)) = true
  rw [beq_false_of_ne (fun e => h ((hcond0_0 t).mp e))]; rfl
/-- Window 5 is written at the first point, -/
theorem idle0_5_first (t : Fin cfg0.N) (h : t.val % 28 = 0) : cfg0.idle 5 (grid0.coords t) = false := idle0_4_first t h
/-- and at no later one. -/
theorem idle0_5_later (t : Fin cfg0.N) (h : ¬t.val % 28 = 0) : cfg0.idle 5 (grid0.coords t) = true := idle0_4_later t h
/-- Window 6 is written at the last point, -/
theorem idle0_6_last (t : Fin cfg0.N) (h : t.val % 28 = 27) : cfg0.idle 6 (grid0.coords t) = false := by
  show (!(k0_cond2 (grid0.coords t) == 1#1)) = false
  rw [show k0_cond2 (grid0.coords t) = 1#1 from (hcond0_1 t).mpr h]; rfl
/-- and at no earlier one. -/
theorem idle0_6_early (t : Fin cfg0.N) (h : ¬t.val % 28 = 27) : cfg0.idle 6 (grid0.coords t) = true := by
  show (!(k0_cond2 (grid0.coords t) == 1#1)) = true
  rw [beq_false_of_ne (fun e => h ((hcond0_1 t).mp e))]; rfl
/-- Window 7 is written at the last point, -/
theorem idle0_7_last (t : Fin cfg0.N) (h : t.val % 28 = 27) : cfg0.idle 7 (grid0.coords t) = false := idle0_6_last t h
/-- and at no earlier one. -/
theorem idle0_7_early (t : Fin cfg0.N) (h : ¬t.val % 28 = 27) : cfg0.idle 7 (grid0.coords t) = true := idle0_6_early t h

/-- Window 4 is written back after the last point only. -/
theorem noflush0_4 (t : Fin cfg0.N) (h : ¬t.val % 28 = 27) : (cfg0.win 4).flush t = false := Bool.eq_false_iff.mpr fun e => h ((flush0_4 t).mp e)
/-- Window 5 is written back after the last point only. -/
theorem noflush0_5 (t : Fin cfg0.N) (h : ¬t.val % 28 = 27) : (cfg0.win 5).flush t = false := Bool.eq_false_iff.mpr fun e => h ((flush0_5 t).mp e)
/-- Window 6 is written back after the last point only. -/
theorem noflush0_6 (t : Fin cfg0.N) (h : ¬t.val % 28 = 27) : (cfg0.win 6).flush t = false := Bool.eq_false_iff.mpr fun e => h ((flush0_6 t).mp e)
/-- Window 7 is written back after the last point only. -/
theorem noflush0_7 (t : Fin cfg0.N) (h : ¬t.val % 28 = 27) : (cfg0.win 7).flush t = false := Bool.eq_false_iff.mpr fun e => h ((flush0_7 t).mp e)

/-- What the body owes of a window it writes at the point. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]
/-- What the body owes of a window it does not write at the point, which is written back after it. -/
theorem leaves_flush (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

/-- After the first point window 4's buffer holds the activations' codes. -/
theorem before0_4 (c : Dev nD) (t : Fin cfg0.N) (ht : t.val ≠ 0) (d) : (dats m 0 c).before 4 t d = k0_pay45 (X0 m c) := by
  obtain ⟨n, hn⟩ := t
  induction n with
  | zero => exact absurd rfl ht
  | succ n ih =>
    have hN : n + 1 < 28 := lt_of_lt_of_eq hn (show cfg0.N = 28 from N_0)
    rw [Dat.before_of_pos _ 4 _ ht rfl, show (cfg0.win 4).flush ⟨n + 1 - 1, _⟩ = false from noflush0_4 _ (by show ¬ n % 28 = 27; omega),
      if_neg Bool.false_ne_true]
    unfold Dat.left
    by_cases hz : n = 0
    · rw [show cfg0.idle 4 (cfg0.grid.coords ⟨n + 1 - 1, _⟩) = false from idle0_4_first ⟨n, by omega⟩ (by show n % 28 = 0; omega)]
      exact after0_4 m c _
    · rw [show cfg0.idle 4 (cfg0.grid.coords ⟨n + 1 - 1, _⟩) = true from idle0_4_later ⟨n, by omega⟩ (by show ¬ n % 28 = 0; omega)]
      exact ih _ hz
/-- After the first point window 5's buffer holds the activations' scales. -/
theorem before0_5 (c : Dev nD) (t : Fin cfg0.N) (ht : t.val ≠ 0) (d) : (dats m 0 c).before 5 t d = k0_pay48 (X0 m c) := by
  obtain ⟨n, hn⟩ := t
  induction n with
  | zero => exact absurd rfl ht
  | succ n ih =>
    have hN : n + 1 < 28 := lt_of_lt_of_eq hn (show cfg0.N = 28 from N_0)
    rw [Dat.before_of_pos _ 5 _ ht rfl, show (cfg0.win 5).flush ⟨n + 1 - 1, _⟩ = false from noflush0_5 _ (by show ¬ n % 28 = 27; omega),
      if_neg Bool.false_ne_true]
    unfold Dat.left
    by_cases hz : n = 0
    · rw [show cfg0.idle 5 (cfg0.grid.coords ⟨n + 1 - 1, _⟩) = false from idle0_5_first ⟨n, by omega⟩ (by show n % 28 = 0; omega)]
      exact after0_5 m c _
    · rw [show cfg0.idle 5 (cfg0.grid.coords ⟨n + 1 - 1, _⟩) = true from idle0_5_later ⟨n, by omega⟩ (by show ¬ n % 28 = 0; omega)]
      exact ih _ hz

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 14400000 in
/-- The body at any point: the inputs' buffers hold their blocks, the point's number says which case it is in, and that case's
    run applies; it leaves the scratch buffers as the invariant after the point says and every window at what the proof data name. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 28 := lt_of_lt_of_eq t.isLt (show cfg0.N = 28 from N_0)
  have eyf : yfBlk (k0_pay46 (X0 m c)) (iblk m c 1 t) (k0_pay47 (X0 m c)) (iblk m c 2 t) = YF m c t := rfl
  simp only [iblk0_eq]
  by_cases h0 : t.val % 28 = 0
  · by_cases h1 : t.val % 28 = 27
    · exfalso; omega
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [leaves_live m c 4 t (idle0_4_first t h0), after0_4]
      rw [leaves_live m c 5 t (idle0_5_first t h0), after0_5]
      rw [(dats m 0 c).leavesExact_idle 6 t (idle0_6_early t h1) (noflush0_6 t h1)]
      rw [(dats m 0 c).leavesExact_idle 7 t (idle0_7_early t h1) (noflush0_7 t h1)]
      rw [PhiS_castSucc m c t, PhiS_zero m c _ _ (by omega), PhiA0_eq]
      iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runA c (grid0.coords t) _ _ _ _ _ _ _ _ _ _ _ _ _ _ _ _ _ _ _ _ _ _ _ _ ((hcond0_0 t).mpr h0) (fun h => h1 ((hcond0_1 t).mp h)) _ _ _ _ _ _ _ _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      rw [eyf, coords_zero t]
      isplitl [HS0 HS1 HS2 HS3 Hg]
      · isplitl [HS0 HS1 HS2 HS3]
        · isplitl [HS0]; · iexact HS0
          isplitl [HS1]; · iexact HS1
          isplitl [HS2]
          · iexists _; isplitr; swap; · iexact HS2
            ipureintro; exact slabs_succ m c t e2 (fun y hy => absurd hy (by omega))
          rw [maxN_succ m c t, show maxN m c t.val = k0_pay49 from by rw [show t.val = 0 from by omega]; rfl]; iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · by_cases h1 : t.val % 28 = 27
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [leaves_flush m c 4 t (idle0_4_later t h0) ((flush0_4 t).mpr h1), after0_4]
      rw [leaves_flush m c 5 t (idle0_5_later t h0) ((flush0_5 t).mpr h1), after0_5]
      rw [leaves_live m c 6 t (idle0_6_last t h1), after0_6]
      rw [leaves_live m c 7 t (idle0_7_last t h1), after0_7]
      rw [PhiS_castSucc m c t, PhiS_pos m c _ _ (by omega)]
      simp only [before0_4 m c t (by omega), before0_5 m c t (by omega)]
      iintro ⟨⟨⟨HS0, HS1, ⟨%e2, %he2, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runC c (grid0.coords t) _ _ _ _ _ _ _ _ _ _ _ _ _ _ _ _ _ _ _ _ _ _ _ _ (fun h => h0 ((hcond0_0 t).mp h)) ((hcond0_1 t).mpr h1) _ _ _ _ _ _ _ _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      rw [eyf, coords_zero t, final_slabs m c t h1 e2 he2, ← maxN_succ m c t, show t.val + 1 = 28 from by omega]
      isplitl [HS0 HS1 HS2 HS3 Hg]
      · isplitl [HS0 HS1 HS2 HS3]
        · isplitl [HS0]; · iexact HS0
          isplitl [HS1]; · iexact HS1
          isplitl [HS2]
          · iexists _; isplitr; swap; · iexact HS2
            ipureintro; exact fun y _ => rfl
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [(dats m 0 c).leavesExact_idle 4 t (idle0_4_later t h0) (noflush0_4 t h1)]
      rw [(dats m 0 c).leavesExact_idle 5 t (idle0_5_later t h0) (noflush0_5 t h1)]
      rw [(dats m 0 c).leavesExact_idle 6 t (idle0_6_early t h1) (noflush0_6 t h1)]
      rw [(dats m 0 c).leavesExact_idle 7 t (idle0_7_early t h1) (noflush0_7 t h1)]
      rw [PhiS_castSucc m c t, PhiS_pos m c _ _ (by omega)]
      iintro ⟨⟨⟨HS0, HS1, ⟨%e2, %he2, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c (grid0.coords t) _ _ _ _ _ _ _ _ _ _ _ _ _ _ _ _ _ _ _ _ _ _ _ _ (fun h => h0 ((hcond0_0 t).mp h)) (fun h => h1 ((hcond0_1 t).mp h)) _ _ _ _ _ _ _ _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      rw [eyf, coords_zero t]
      isplitl [HS0 HS1 HS2 HS3 Hg]
      · isplitl [HS0 HS1 HS2 HS3]
        · isplitl [HS0]; · iexact HS0
          isplitl [HS1]; · iexact HS1
          isplitl [HS2]
          · iexists _; isplitr; swap; · iexact HS2
            ipureintro; exact slabs_succ m c t e2 he2
          rw [maxN_succ m c t]; iexact HS3
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      iexists _; iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = PhiS m c cfg0.N le_rfl from rfl, PhiS_pos m c _ _ (by have : cfg0.N = 28 := N_0; omega), PhiA0_eq]
  iintro ⟨⟨HS0, HS1, ⟨%d, -, HS2⟩, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-! ## The run and the frame -/

set_option backward.isDefEq.respectTransparency.types false in
set_option maxHeartbeats 800000 in
/-- The launch: every execution ends with every array of the pipeline at what the proof data say, every other buffer at what the
    host lines leave there, and every semaphore counter at zero. -/
theorem run_main_quiescent : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

end Cert.KernelIdeal.Body

end
-- ==== Proof.Final.lean ====
/- What the kernel's arrays hold when the program has run, in terms of the arguments. -/
module

public import proofs.«01_k».proof.Proof.Launch
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's block index at a point: the whole array. -/
theorem idx0 : ∀ t : Fin cfg0.N, win0_0.index t = ![0, 0] := (by decide +kernel : ∀ t : Fin grid0.N, _)
/-- Window 1's block index at a point: the point's number along the columns. -/
theorem idx1 : ∀ t : Fin cfg0.N, win0_1.index t = ![0, t.val] := (by decide +kernel : ∀ t : Fin grid0.N, _)
/-- Window 2's block index at a point. -/
theorem idx2 : ∀ t : Fin cfg0.N, win0_2.index t = ![0, t.val] := (by decide +kernel : ∀ t : Fin grid0.N, _)
/-- Window 3's block index at a point. -/
theorem idx3 : ∀ t : Fin cfg0.N, win0_3.index t = ![0, t.val] := (by decide +kernel : ∀ t : Fin grid0.N, _)
/-- Window 4's block index at a point. -/
theorem idx4 : ∀ t : Fin cfg0.N, win0_4.index t = ![0, 0] := (by decide +kernel : ∀ t : Fin grid0.N, _)
/-- Window 5's block index at a point. -/
theorem idx5 : ∀ t : Fin cfg0.N, win0_5.index t = ![0, 0] := (by decide +kernel : ∀ t : Fin grid0.N, _)
/-- Window 6's block index at a point. -/
theorem idx6 : ∀ t : Fin cfg0.N, win0_6.index t = ![0, 0] := (by decide +kernel : ∀ t : Fin grid0.N, _)
/-- Window 7's block index at a point. -/
theorem idx7 : ∀ t : Fin cfg0.N, win0_7.index t = ![0, 0] := (by decide +kernel : ∀ t : Fin grid0.N, _)

/-- The point that computes column `n` of the result. -/
def ptOf (n : Fin 14336) : Fin cfg0.N := ⟨n.val / 512, lt_of_lt_of_eq (by have := n.isLt; omega : n.val / 512 < 28) (show 28 = cfg0.N from N_0.symm)⟩
/-- The column within that point's block. -/
def colOf (n : Fin 14336) : Fin 512 := ⟨n.val % 512, Nat.mod_lt _ (by decide)⟩

/-- The result `y`, block by block. -/
def YALL (c : Dev nD) : Vec F S128x14336 .bf16 := fun i => yBlk (YF m c (ptOf (i 1))) (ix2 (i 0) (colOf (i 1)))

/-! ## The arrays the launch writes -/

/-- The array of `y` after the run. -/
theorem final_3 (c : Dev nD) : (dats m 0 c).arrAt 3 cfg0.N = YALL m c := by
  refine (dats m 0 c).arrAt_eq_of_covers 3 _ (by decide +kernel) fun t hf y => ?_
  blk_simp
  rw [after0_3]
  have hN : t.val < 28 := lt_of_lt_of_eq t.isLt (show cfg0.N = 28 from N_0)
  have hy1 : (y 1).val < 512 := (y 1).isLt
  have e0 : (((win0_3.blk t).view.emb y) 0).val = (y 0).val := by blk_simp [idx3]
  have e1 : (((win0_3.blk t).view.emb y) 1).val = t.val * 512 + (y 1).val := by blk_simp [idx3]
  unfold YALL
  have ep : ptOf (((win0_3.blk t).view.emb y) 1) = t := Fin.ext (by show (((win0_3.blk t).view.emb y) 1).val / 512 = t.val; rw [e1]; omega)
  have ec : (ix2 (((win0_3.blk t).view.emb y) 0) (colOf (((win0_3.blk t).view.emb y) 1)) : S128x512.Idx) = y := by
    funext a
    fin_cases a
    · exact Fin.ext e0
    · exact Fin.ext (by show (((win0_3.blk t).view.emb y) 1).val % 512 = (y 1).val; rw [e1]; omega)
  rw [ep, ec]

/-- The activations' codes after the run. -/
theorem final_4 (c : Dev nD) : (dats m 0 c).arrAt 4 cfg0.N = k0_pay45 (X0 m c) := by
  refine (dats m 0 c).arrAt_eq_of_covers 4 _ (by decide +kernel) fun t hf y => ?_
  blk_simp
  rw [after0_4]
  exact congrArg _ (by blk_ext [idx4])
/-- The activations' scales after the run. -/
theorem final_5 (c : Dev nD) : (dats m 0 c).arrAt 5 cfg0.N = k0_pay48 (X0 m c) := by
  refine (dats m 0 c).arrAt_eq_of_covers 5 _ (by decide +kernel) fun t hf y => ?_
  blk_simp
  rw [after0_5]
  exact congrArg _ (by blk_ext [idx5])
/-- The codes of the products after the run. -/
theorem final_6 (c : Dev nD) : (dats m 0 c).arrAt 6 cfg0.N = quantAll (k0_pay6 (maxN m c 28)) (ALL m c) := by
  refine (dats m 0 c).arrAt_eq_of_covers 6 _ (by decide +kernel) fun t hf y => ?_
  blk_simp
  rw [after0_6]
  exact congrArg _ (by blk_ext [idx6])
/-- The scales of the products after the run. -/
theorem final_7 (c : Dev nD) : (dats m 0 c).arrAt 7 cfg0.N = k0_pay7 (maxN m c 28) := by
  refine (dats m 0 c).arrAt_eq_of_covers 7 _ (by decide +kernel) fun t hf y => ?_
  blk_simp
  rw [after0_7]
  exact congrArg _ (by blk_ext [idx7])

/-! ## The host's reshapes after the launch -/

/-- The result `y` as the host leaves it. -/
theorem tail_3 (c : Dev nD) : Pipeline.afterTail₀ cfgs (dats m) 0 (V0 m) [hostOps1] c main_v3
    = shapeCast S1x128x14336 (YALL m c) shapeCasts_S128x14336_S1x128x14336 := by
  unfold Pipeline.afterTail₀
  simp only [hostOps1, List.flatten_cons, List.flatten_nil, List.append_nil]
  after_results
  rw [← final_3 m c]
  exact congrArg (fun a : Vec F S128x14336 .bf16 => shapeCast S1x128x14336 a shapeCasts_S128x14336_S1x128x14336)
    (Pipeline.withArrays_arr spec0 launch0.win.arr_inj c (V0 m c) (fun w => (dats m 0 c).arrAt w cfg0.N) 3)
/-- The activations' codes as the host leaves them. -/
theorem tail_4 (c : Dev nD) : Pipeline.afterTail₀ cfgs (dats m) 0 (V0 m) [hostOps1] c main_v4
    = shapeCast S1x128x4096 (k0_pay45 (X0 m c)) shapeCasts_S128x4096_S1x128x4096 := by
  unfold Pipeline.afterTail₀
  simp only [hostOps1, List.flatten_cons, List.flatten_nil, List.append_nil]
  after_results
  rw [← final_4 m c]
  exact congrArg (fun a : Vec F S128x4096 .i8 => shapeCast S1x128x4096 a shapeCasts_S128x4096_S1x128x4096)
    (Pipeline.withArrays_arr spec0 launch0.win.arr_inj c (V0 m c) (fun w => (dats m 0 c).arrAt w cfg0.N) 4)
/-- The codes of the products as the host leaves them. -/
theorem tail_5 (c : Dev nD) : Pipeline.afterTail₀ cfgs (dats m) 0 (V0 m) [hostOps1] c main_v5
    = shapeCast S1x128x14336 (quantAll (k0_pay6 (maxN m c 28)) (ALL m c)) shapeCasts_S128x14336_S1x128x14336 := by
  unfold Pipeline.afterTail₀
  simp only [hostOps1, List.flatten_cons, List.flatten_nil, List.append_nil]
  after_results
  rw [← final_6 m c]
  exact congrArg (fun a : Vec F S128x14336 .i8 => shapeCast S1x128x14336 a shapeCasts_S128x14336_S1x128x14336)
    (Pipeline.withArrays_arr spec0 launch0.win.arr_inj c (V0 m c) (fun w => (dats m 0 c).arrAt w cfg0.N) 6)

/-! ## The inputs' blocks, as the arguments' elements -/

/-- The first host line's result: the activations, without the leading unit axis. -/
theorem V_v0 (c : Dev nD) : V m c main_v0 = shapeCast S128x4096 (m ((c : Thread nD τ).loc main_arg0) : Vec F S1x128x4096 .bf16) shapeCasts_S1x128x4096_S128x4096 := by
  simp only [V, V0, hostOps0, List.flatten_cons, List.flatten_nil, List.append_nil]
  after_results
  rfl
/-- The second host line's result: the weights' scales, as one row. -/
theorem V_v1 (c : Dev nD) : V m c main_v1 = shapeCast S1x14336 (m ((c : Thread nD τ).loc main_arg2) : Vec F S14336 .f32) shapeCasts_S14336_S1x14336 := by
  simp only [V, V0, hostOps0, List.flatten_cons, List.flatten_nil, List.append_nil]
  after_results
  rfl

/-- A leading unit axis dropped, at an index. -/
theorem drop_apply (v : Vec F S1x128x4096 .bf16) (a : Fin 128) (k : Fin 4096) :
    shapeCast S128x4096 v shapeCasts_S1x128x4096_S128x4096 (ix2 a k) = v (ix3 0 a k) := by
  pointwise
/-- A leading unit axis added, at an index. -/
theorem row_apply (v : Vec F S14336 .f32) (n : Fin 14336) :
    shapeCast S1x14336 v shapeCasts_S14336_S1x14336 (ix2 0 n) = v (ix1 n) := by
  pointwise

/-- The activations' block at an index. -/
theorem X0_apply (c : Dev nD) (a : Fin 128) (k : Fin 4096) : X0 m c (ix2 a k) = (m ((c : Thread nD τ).loc main_arg0) : Vec F S1x128x4096 .bf16) (ix3 0 a k) := by
  have e : X0 m c (ix2 a k) = (V m c main_v0 : Vec F S128x4096 .bf16) (ix2 a k) :=
    congrArg (V m c main_v0 : Vec F S128x4096 .bf16) (show (win0_0.blk firstPt).view.emb (ix2 a k) = ix2 a k from by blk_ext [idx0])
  rw [e, V_v0]
  exact drop_apply _ a k
/-- The weights' block at an index. -/
theorem W_apply (c : Dev nD) (t : Fin cfg0.N) (k : Fin 4096) (n : Fin 512) (N : Fin 14336) (hN : N.val = t.val * 512 + n.val) :
    iblk m c 1 t (ix2 k n) = (m ((c : Thread nD τ).loc main_arg1) : Vec F S4096x14336 .i8) (ix2 k N) := by
  have e : iblk m c 1 t (ix2 k n) = (V m c main_arg1 : Vec F S4096x14336 .i8) (ix2 k N) :=
    congrArg (V m c main_arg1 : Vec F S4096x14336 .i8) (show (win0_1.blk t).view.emb (ix2 k n) = ix2 k N from by blk_ext [idx1])
  rw [e, V_main_arg1]
/-- The weights' scales' block at an index. -/
theorem S_apply (c : Dev nD) (t : Fin cfg0.N) (n : Fin 512) (N : Fin 14336) (hN : N.val = t.val * 512 + n.val) :
    iblk m c 2 t (ix2 0 n) = (m ((c : Thread nD τ).loc main_arg2) : Vec F S14336 .f32) (ix1 N) := by
  have e : iblk m c 2 t (ix2 0 n) = (V m c main_v1 : Vec F S1x14336 .f32) (ix2 0 N) :=
    congrArg (V m c main_v1 : Vec F S1x14336 .f32) (show (win0_2.blk t).view.emb (ix2 0 n) = ix2 0 N from by blk_ext [idx2])
  rw [e, V_v1]
  exact row_apply _ N

/-! ## The frame, and the run with its results named -/

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The five results after the run. -/
theorem results : θ_run defs (onTc (τ := τ) (main (F := F))) ⟨m, fun _ => 0, ρ⟩ (fun r => ∀ c : Dev nD,
      r.2.mem ((c.tc : Thread nD τ).loc main_v3) = shapeCast S1x128x14336 (YALL m c) shapeCasts_S128x14336_S1x128x14336
      ∧ r.2.mem ((c.tc : Thread nD τ).loc main_v4) = shapeCast S1x128x4096 (k0_pay45 (X0 m c)) shapeCasts_S128x4096_S1x128x4096
      ∧ r.2.mem ((c.tc : Thread nD τ).loc main_v2_2) = k0_pay48 (X0 m c)
      ∧ r.2.mem ((c.tc : Thread nD τ).loc main_v5) = shapeCast S1x128x14336 (quantAll (k0_pay6 (maxN m c 28)) (ALL m c)) shapeCasts_S128x14336_S1x128x14336
      ∧ r.2.mem ((c.tc : Thread nD τ).loc main_v2_4) = k0_pay7 (maxN m c 28)) :=
  (θ_run defs _ _).mono (fun _ h c =>
    ⟨((h c).2 main_v3 (Pipeline.mem_restRefs_of main_v3 (by decide) (by decide))).trans (tail_3 m c),
     ((h c).2 main_v4 (Pipeline.mem_restRefs_of main_v4 (by decide) (by decide))).trans (tail_4 m c),
     ((h c).1 5).trans (final_5 m c),
     ((h c).2 main_v5 (Pipeline.mem_restRefs_of main_v5 (by decide) (by decide))).trans (tail_5 m c),
     ((h c).1 7).trans (final_7 m c)⟩) (run_main m ρ)

end Cert.KernelIdeal.Body

end
-- ==== Proof.Quant.lean ====
/- Row scales and codes, on the extended reals. -/
module

public import Idealize.ShloMosaic.PureOps.Ideal

@[expose] public section

set_option maxRecDepth 16384

noncomputable section

namespace Cert.Quant

open Idealize.ShloMosaic

/-- The largest absolute value of a row. -/
def rowMax {n : ℕ} (f : Fin n → EReal) : EReal :=
  Finset.fold max (Ideal.ofBits .f32 0xFF800000#32) (fun x => FloatOps.absf (F := Ideal) (φ := .f32) (f x)) Finset.univ

/-- A row's scale: its largest absolute value over 127, or one where that is zero. -/
def scaleOf (r : EReal) : EReal := if r = 0 then 1 else Ideal.div r (Ideal.ofBits .f32 0x42FE0000#32)

/-- An element divided by its row's scale, rounded to the nearest integer and clamped to ±127. -/
def quant (x s : EReal) : EReal :=
  min (Ideal.ofBits .f32 0x42FE0000#32) (max (Ideal.ofBits .f32 0xC2FE0000#32) (Ideal.liftRound Ideal.roundHalfEven (Ideal.div x s)))

/-- Its code, a signed byte. -/
def code (x s : EReal) : BitVec 8 := FloatOps.fptosi (F := Ideal) (φ := .f32) 8 (quant x s)

end Cert.Quant

end
-- ==== Proof.KernelRows.lean ====
/- The kernel's quantisation of the activations, element by element. -/
module

public import proofs.«01_k».proof.Proof.Final
public import proofs.«01_k».proof.Proof.Quant
public import Idealize.ShloMosaic.Lib.Pointwise

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000
open Cert.Quant
/-- The activations' scales. -/
theorem pay43_apply (x : Vec Ideal S128x4096 .bf16) (a : Fin 128) :
    k0_pay43 x (ix2 a 0) = scaleOf (rowMax fun k => x (ix2 a k)) := by
  unfold scaleOf rowMax
  pointwise [k0_pay43, k0_pay42]
/-- The activations' scales, as the kernel keeps them. -/
theorem pay47_apply (x : Vec Ideal S128x4096 .bf16) (a : Fin 128) :
    k0_pay47 x (ix2 a 0) = scaleOf (rowMax fun k => x (ix2 a k)) := by
  rw [← pay43_apply]
  pointwise [k0_pay47]
/-- The activations' scales, as a row. -/
theorem pay48_apply (x : Vec Ideal S128x4096 .bf16) (a : Fin 128) :
    k0_pay48 x (ix2 0 a) = scaleOf (rowMax fun k => x (ix2 a k)) := by
  rw [← pay43_apply]
  pointwise [k0_pay48]
/-- The quantised activations. -/
theorem pay44_apply (x : Vec Ideal S128x4096 .bf16) (a : Fin 128) (k : Fin 4096) :
    k0_pay44 x (ix2 a k) = quant (x (ix2 a k)) (scaleOf (rowMax fun k => x (ix2 a k))) := by
  rw [← pay43_apply]; unfold quant
  pointwise [k0_pay44, k0_pay42]
/-- The quantised activations, as the kernel keeps them. -/
theorem pay46_apply (x : Vec Ideal S128x4096 .bf16) (a : Fin 128) (k : Fin 4096) :
    k0_pay46 x (ix2 a k) = quant (x (ix2 a k)) (scaleOf (rowMax fun k => x (ix2 a k))) := by
  rw [← pay44_apply]
  pointwise [k0_pay46]
/-- The activations' codes. -/
theorem pay45_apply (x : Vec Ideal S128x4096 .bf16) (a : Fin 128) (k : Fin 4096) :
    k0_pay45 x (ix2 a k) = code (x (ix2 a k)) (scaleOf (rowMax fun k => x (ix2 a k))) := by
  unfold code; rw [← pay44_apply]
  pointwise [k0_pay45]

end Cert.KernelIdeal.Body

end
-- ==== Proof.KernelBlocks.lean ====
/- The kernel's work on one block of columns, element by element. -/
module

public import proofs.«01_k».proof.Proof.Final
public import proofs.«01_k».proof.Proof.Quant
public import Idealize.ShloMosaic.Lib.Pointwise

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000
open Cert.Quant
/-- A block's scaled products: the four chunks' dot products as 32-bit words, added, times the two scales. -/
theorem pay50_apply (v0 v6 v12 v18 : Vec Ideal S128x1024 .bf16) (v3 v9 v15 v21 : Vec Ideal S1024x512 .i8) (v27 : Vec Ideal S128x1 .f32) (a : Fin 128) (n : Fin 512) :
    k0_pay50 v0 v3 v6 v9 v12 v15 v18 v21 v27 (ix2 a n) =
      FloatOps.sitofp (F := Ideal) .f32
        (IntOp.addi
          (IntOp.addi
            (IntOp.addi (FloatOps.fptosi (F := Ideal) (φ := .f32) 32 (∑ x, v0 (ix2 a x) * FloatOps.sitofp (F := Ideal) .bf16 (v3 (ix2 x n))))
              (FloatOps.fptosi (F := Ideal) (φ := .f32) 32 (∑ x, v6 (ix2 a x) * FloatOps.sitofp (F := Ideal) .bf16 (v9 (ix2 x n)))))
            (FloatOps.fptosi (F := Ideal) (φ := .f32) 32 (∑ x, v12 (ix2 a x) * FloatOps.sitofp (F := Ideal) .bf16 (v15 (ix2 x n)))))
          (FloatOps.fptosi (F := Ideal) (φ := .f32) 32 (∑ x, v18 (ix2 a x) * FloatOps.sitofp (F := Ideal) .bf16 (v21 (ix2 x n))))) *
      v27 (ix2 a 0) := by
  pointwise [k0_pay50]
/-- A row factor, broadcast over the rows. -/
theorem pay1_apply (v29 : FVec Ideal S128x512 .f32) (v31 : FVec Ideal S1x512 .f32) (a : Fin 128) (n : Fin 512) :
    k0_pay1 v29 (k0_pay51 v31) (ix2 a n) = v29 (ix2 a n) * v31 (ix2 0 n) := by
  skip
  pointwise [k0_pay1, k0_pay51]
/-- The running row maxima after a block. -/
theorem maxBlk_apply (b : FVec Ideal S128x512 .f32) (d : FVec Ideal S128x1 .f32) (a : Fin 128) :
    maxBlk b d (ix2 a 0) = max (d (ix2 a 0)) (rowMax fun n => b (ix2 a n)) := by
  unfold rowMax
  pointwise [maxBlk]
/-- The row maxima the launch starts with. -/
theorem pay49_apply (a : Fin 128) :
    (k0_pay49 : FVec Ideal S128x1 .f32) (ix2 a 0) = 0 := by
  skip
  pointwise [k0_pay49]
/-- The products' scales. -/
theorem pay6_apply (v : FVec Ideal S128x1 .f32) (a : Fin 128) :
    k0_pay6 (F := Ideal) v (ix2 a 0) = scaleOf (v (ix2 a 0)) := by
  unfold scaleOf
  pointwise [k0_pay6]
/-- The products' scales, as a row. -/
theorem pay7_apply (v : FVec Ideal S128x1 .f32) (a : Fin 128) :
    k0_pay7 (F := Ideal) v (ix2 0 a) = scaleOf (v (ix2 a 0)) := by
  rw [← pay6_apply]
  pointwise [k0_pay7]
/-- A block's codes. -/
theorem pay12_apply (s : FVec Ideal S128x1 .f32) (d : Vec Ideal S1x128x512 .f32) (a : Fin 128) (n : Fin 512) :
    k0_pay12 s d (ix2 a n) = code (d (ix3 0 a n)) (s (ix2 a 0)) := by
  unfold code quant
  pointwise [k0_pay12]
/-- The block of `y`. -/
theorem yBlk_apply (b : FVec Ideal S128x512 .f32) (a : Fin 128) (n : Fin 512) :
    yBlk b (ix2 a n) = b (ix2 a n) := by
  skip
  pointwise [yBlk]

end Cert.KernelIdeal.Body

end
-- ==== Proof.Arith.lean ====
/- The arithmetic on the extended reals that makes the two programs agree. -/
module

public import proofs.«01_k».proof.Proof.Quant
public import Idealize.ShloMosaic.Lib.IdealHost
public import Mathlib.Tactic.NormNum
public import Mathlib.Algebra.Order.BigOperators.Group.Finset
public import Mathlib.Data.BitVec

@[expose] public section

set_option maxRecDepth 16384

noncomputable section

namespace Cert.Quant

open Idealize.ShloMosaic

/-! ## The constants -/

/-- The pattern of 127. -/
theorem ofBits_127 : Ideal.ofBits .f32 0x42FE0000#32 = ((127 : ℝ) : EReal) := by
  simp [Ideal.ofBits, Ideal.ieee, -EReal.coe_mul]; norm_num
/-- The pattern of −127. -/
theorem ofBits_neg127 : Ideal.ofBits .f32 0xC2FE0000#32 = ((-127 : ℝ) : EReal) := by
  simp [Ideal.ofBits, Ideal.ieee, -EReal.coe_mul, -EReal.coe_neg]; norm_num
/-- The pattern of −∞. -/
theorem ofBits_ninf : Ideal.ofBits .f32 0xFF800000#32 = ⊥ := by
  simp [Ideal.ofBits, Ideal.ieee]

/-! ## A clamped rounded value is an integer between ±127, and its code is that integer -/

/-- A quantised value is an integer of magnitude at most 127. -/
theorem quant_int (x s : EReal) : ∃ k : ℤ, -127 ≤ k ∧ k ≤ 127 ∧ quant x s = ((k : ℝ) : EReal) := by
  unfold quant
  rw [ofBits_127, ofBits_neg127]
  generalize Ideal.div x s = e
  induction e using EReal.rec with
  | bot =>
    refine ⟨-127, le_refl _, by decide, ?_⟩
    rw [show Ideal.liftRound Ideal.roundHalfEven ⊥ = ⊥ from rfl, max_eq_left bot_le, min_eq_right (EReal.coe_le_coe_iff.mpr (by norm_num))]
    norm_num
  | top =>
    refine ⟨127, by decide, le_refl _, ?_⟩
    rw [show Ideal.liftRound Ideal.roundHalfEven ⊤ = ⊤ from rfl, max_eq_right le_top, min_eq_left le_top]
    norm_num
  | coe r =>
    refine ⟨min 127 (max (-127) (Ideal.roundHalfEven r)), by omega, by omega, ?_⟩
    rw [show Ideal.liftRound Ideal.roundHalfEven ((r : ℝ) : EReal) = ((Ideal.roundHalfEven r : ℝ) : EReal) from rfl,
      ← Monotone.map_max EReal.coe_strictMono.monotone, ← Monotone.map_min EReal.coe_strictMono.monotone]
    congr 1
    push_cast
    rfl

/-- An integer within a word's range, converted to the word. -/
theorem fptosi_int (w : ℕ) (k : ℤ) (h0 : -((2 ^ (w - 1) : ℕ) : ℤ) ≤ k) (h1 : k ≤ ((2 ^ (w - 1) : ℕ) : ℤ) - 1) :
    FloatOps.fptosi (F := Ideal) (φ := .f32) w (((k : ℝ) : EReal)) = BitVec.ofInt w k := by
  show BitVec.ofInt w (Ideal.toIntClamped _ _ (((k : ℝ) : EReal))) = _
  rw [Ideal.toIntClamped_coe, Int.floor_intCast, Int.ceil_intCast, ite_self, min_eq_right h1, max_eq_right h0]

/-- A quantised value is the integer its code denotes. -/
theorem code_toInt (x s : EReal) : (((code x s).toInt : ℝ) : EReal) = quant x s := by
  obtain ⟨k, h0, h1, hk⟩ := quant_int x s
  unfold code
  rw [hk, fptosi_int 8 k (by norm_num; omega) (by norm_num; omega)]
  have e : (BitVec.ofInt 8 k).toInt = k := by
    rw [BitVec.toInt_ofInt]
    exact Int.bmod_eq_of_le (by norm_num; omega) (by norm_num; omega)
  rw [e]

/-! ## Dot products of integers -/

/-- A finite sum of integers, on the extended reals. -/
theorem coe_sum {ι : Type} (s : Finset ι) (f : ι → ℤ) : ((((∑ x ∈ s, f x : ℤ)) : ℝ) : EReal) = ∑ x ∈ s, (((f x : ℤ) : ℝ) : EReal) := by
  classical
  induction s using Finset.induction_on with
  | empty => simp
  | insert a s ha ih => rw [Finset.sum_insert ha, Finset.sum_insert ha, ← ih, Int.cast_add, EReal.coe_add]

/-- A signed byte is between −128 and 127. -/
theorem byte_bounds (b : BitVec 8) : -128 ≤ b.toInt ∧ b.toInt ≤ 127 := by
  have h1 := BitVec.toInt_lt (x := b)
  have h2 := BitVec.le_toInt (x := b)
  norm_num at h1 h2
  omega

/-- The dot product of two vectors of signed bytes, at most `n` long with `n` at most 4096, converted to a 32-bit word. -/
theorem fptosi_dot (n : ℕ) (hn : n ≤ 4096) (u v : Fin n → BitVec 8) :
    FloatOps.fptosi (F := Ideal) (φ := .f32) 32 (∑ x, (((u x).toInt : ℝ) : EReal) * (((v x).toInt : ℝ) : EReal))
      = BitVec.ofInt 32 (∑ x, (u x).toInt * (v x).toInt) := by
  have e : (∑ x, (((u x).toInt : ℝ) : EReal) * (((v x).toInt : ℝ) : EReal)) = ((((∑ x, (u x).toInt * (v x).toInt : ℤ)) : ℝ) : EReal) := by
    rw [coe_sum]
    refine Finset.sum_congr rfl fun x _ => ?_
    rw [Int.cast_mul, EReal.coe_mul]
  have hb : |∑ x, (u x).toInt * (v x).toInt| ≤ (n : ℤ) * 16384 := by
    refine (Finset.abs_sum_le_sum_abs _ _).trans ?_
    refine (Finset.sum_le_card_nsmul _ _ 16384 fun x _ => ?_).trans ?_
    · rw [abs_mul]
      obtain ⟨a0, a1⟩ := byte_bounds (u x)
      obtain ⟨b0, b1⟩ := byte_bounds (v x)
      have ha : |(u x).toInt| ≤ 128 := abs_le.mpr ⟨by omega, by omega⟩
      have hb : |(v x).toInt| ≤ 128 := abs_le.mpr ⟨by omega, by omega⟩
      calc |(u x).toInt| * |(v x).toInt| ≤ 128 * 128 := mul_le_mul ha hb (abs_nonneg _) (by norm_num)
        _ = 16384 := by norm_num
    · rw [Finset.card_univ, Fintype.card_fin, nsmul_eq_mul]
  obtain ⟨h0, h1⟩ := abs_le.mp hb
  have hn' : (n : ℤ) ≤ 4096 := by exact_mod_cast hn
  rw [e]
  exact fptosi_int 32 _ (by norm_num; omega) (by norm_num; omega)

/-- Consecutive groups of `B` summed one after the other are the whole sum. -/
theorem sum_groups {M : Type} [AddCommMonoid M] (B : ℕ) (G : ℕ → M) (J : ℕ) :
    ∑ j ∈ Finset.range J, ∑ x ∈ Finset.range B, G (j * B + x) = ∑ k ∈ Finset.range (J * B), G k := by
  induction J with
  | zero => simp
  | succ J ih => rw [Finset.sum_range_succ, ih, Nat.succ_mul, Finset.sum_range_add]

/-- A sum of integers as words is the sum of the words. -/
theorem ofInt_sum {ι : Type} (s : Finset ι) (f : ι → ℤ) : BitVec.ofInt 32 (∑ x ∈ s, f x) = ∑ x ∈ s, BitVec.ofInt 32 (f x) := by
  classical
  induction s using Finset.induction_on with
  | empty => simp
  | insert a s ha ih => rw [Finset.sum_insert ha, Finset.sum_insert ha, ← ih, BitVec.ofInt_add]

/-- Eight words added up. -/
theorem fold_addi (f : Fin 8 → BitVec 32) : Finset.fold IntOp.addi (0#32) f Finset.univ = ∑ j, f j := by
  rw [Finset.sum_eq_fold]
  rfl

/-- The products of corresponding bytes, position by position, past the end zero. -/
def term (u v : Fin 4096 → BitVec 8) (k : ℕ) : ℤ := if h : k < 4096 then (u ⟨k, h⟩).toInt * (v ⟨k, h⟩).toInt else 0

/-- A group's dot product from its terms. -/
theorem group_dot (B o : ℕ) (hB : o + B ≤ 4096) (u v : Fin 4096 → BitVec 8) :
    ∑ x : Fin B, (u ⟨o + x.val, by omega⟩).toInt * (v ⟨o + x.val, by omega⟩).toInt = ∑ x ∈ Finset.range B, term u v (o + x) := by
  rw [← Fin.sum_univ_eq_sum_range (fun x => term u v (o + x)) B]
  refine Finset.sum_congr rfl fun x _ => ?_
  unfold term
  rw [dif_pos (by omega)]

/-- The word of the whole dot product. -/
def dotWord (u v : Fin 4096 → BitVec 8) : BitVec 32 := BitVec.ofInt 32 (∑ k ∈ Finset.range 4096, term u v k)

/-- Eight groups of 512, each converted to a word, added: the word of the whole dot product. -/
theorem eight_groups (u v : Fin 4096 → BitVec 8) :
    Finset.fold IntOp.addi (0#32)
      (fun j : Fin 8 => FloatOps.fptosi (F := Ideal) (φ := .f32) 32
        (∑ l : Fin 512, (((v ⟨j.val * 512 + l.val, by omega⟩).toInt : ℝ) : EReal) * (((u ⟨j.val * 512 + l.val, by omega⟩).toInt : ℝ) : EReal)))
      Finset.univ = dotWord u v := by
  rw [fold_addi]
  have e : ∀ j : Fin 8, FloatOps.fptosi (F := Ideal) (φ := .f32) 32
        (∑ l : Fin 512, (((v ⟨j.val * 512 + l.val, by omega⟩).toInt : ℝ) : EReal) * (((u ⟨j.val * 512 + l.val, by omega⟩).toInt : ℝ) : EReal))
      = BitVec.ofInt 32 (∑ x ∈ Finset.range 512, term u v (j.val * 512 + x)) := fun j => by
    rw [fptosi_dot 512 (by norm_num) (fun l => v ⟨j.val * 512 + l.val, by omega⟩) (fun l => u ⟨j.val * 512 + l.val, by omega⟩),
      ← group_dot 512 (j.val * 512) (by omega) u v]
    refine congrArg _ (Finset.sum_congr rfl fun x _ => mul_comm _ _)
  rw [Finset.sum_congr rfl fun j _ => e j, ← ofInt_sum,
    Fin.sum_univ_eq_sum_range (fun j => ∑ x ∈ Finset.range 512, term u v (j * 512 + x)) 8, sum_groups 512 (term u v) 8]
  rfl

/-- A group of 1024 converted to a word. -/
theorem chunk_word (u v : Fin 4096 → BitVec 8) (o : ℕ) (ho : o + 1024 ≤ 4096) :
    FloatOps.fptosi (F := Ideal) (φ := .f32) 32
        (∑ l : Fin 1024, (((u ⟨o + l.val, by omega⟩).toInt : ℝ) : EReal) * (((v ⟨o + l.val, by omega⟩).toInt : ℝ) : EReal))
      = BitVec.ofInt 32 (∑ x ∈ Finset.range 1024, term u v (o + x)) := by
  rw [fptosi_dot 1024 (by norm_num) (fun l => u ⟨o + l.val, by omega⟩) (fun l => v ⟨o + l.val, by omega⟩), ← group_dot 1024 o ho u v]

/-- Four groups of 1024 as words, added: the word of the whole dot product. -/
theorem four_words (u v : Fin 4096 → BitVec 8) :
    IntOp.addi (IntOp.addi (IntOp.addi (BitVec.ofInt 32 (∑ x ∈ Finset.range 1024, term u v (0 + x)))
      (BitVec.ofInt 32 (∑ x ∈ Finset.range 1024, term u v (1024 + x)))) (BitVec.ofInt 32 (∑ x ∈ Finset.range 1024, term u v (2048 + x))))
      (BitVec.ofInt 32 (∑ x ∈ Finset.range 1024, term u v (3072 + x))) = dotWord u v := by
  show BitVec.ofInt 32 _ + BitVec.ofInt 32 _ + BitVec.ofInt 32 _ + BitVec.ofInt 32 _ = _
  rw [← BitVec.ofInt_add, ← BitVec.ofInt_add, ← BitVec.ofInt_add]
  unfold dotWord
  have h := sum_groups 1024 (term u v) 4
  rw [Finset.sum_range_succ, Finset.sum_range_succ, Finset.sum_range_succ, Finset.sum_range_one] at h
  exact congrArg _ h

/-! ## Row maxima -/

/-- An absolute value is not negative. -/
theorem abs_nonneg' (x : EReal) : 0 ≤ FloatOps.absf (F := Ideal) (φ := .f32) x := by
  show 0 ≤ max x (-x)
  rcases le_total 0 x with h | h
  · exact h.trans (le_max_left _ _)
  · exact (EReal.neg_nonneg.mpr h).trans (le_max_right _ _)

/-- A row's largest absolute value is at most `z` when each of the row's is. -/
theorem rowMax_le {n : ℕ} (f : Fin n → EReal) (z : EReal) :
    rowMax f ≤ z ↔ ∀ x, FloatOps.absf (F := Ideal) (φ := .f32) (f x) ≤ z := by
  unfold rowMax
  rw [Finset.fold_max_le, ofBits_ninf]
  exact ⟨fun h x => h.2 x (Finset.mem_univ x), fun h => ⟨bot_le, fun x _ => h x⟩⟩

/-- A maximum started at zero and raised by `B` values at a time, `J` times, is the maximum of all `J * B`. -/
theorem running_max (J B : ℕ) (hJ : 0 < J * B) (f : Fin (J * B) → EReal) (g : (j : ℕ) → j < J → Fin B → EReal)
    (hg : ∀ (j : ℕ) (hj : j < J) (x : Fin B) (k : Fin (J * B)), k.val = j * B + x.val → g j hj x = f k)
    (m : ℕ → EReal) (h0 : m 0 = 0) (hs : ∀ j (hj : j < J), m (j + 1) = max (m j) (rowMax (g j hj))) : m J = rowMax f := by
  have key : ∀ j, j ≤ J → ∀ z, m j ≤ z ↔ 0 ≤ z ∧ ∀ i (hi : i < J), i < j → ∀ x, FloatOps.absf (F := Ideal) (φ := .f32) (g i hi x) ≤ z := by
    intro j
    induction j with
    | zero => intro _ z; rw [h0]; exact ⟨fun h => ⟨h, fun i _ hi => absurd hi (by omega)⟩, fun h => h.1⟩
    | succ j ih =>
      intro hj z
      rw [hs j (by omega), max_le_iff, ih (by omega) z, rowMax_le]
      constructor
      · rintro ⟨⟨hz, h1⟩, h2⟩
        refine ⟨hz, fun i hi hij x => ?_⟩
        by_cases he : i = j
        · subst he; exact h2 x
        · exact h1 i hi (by omega) x
      · rintro ⟨hz, h⟩
        exact ⟨⟨hz, fun i hi hij x => h i hi (by omega) x⟩, fun x => h j (by omega) (by omega) x⟩
  refine eq_of_forall_ge_iff fun z => ?_
  rw [key J le_rfl z, rowMax_le]
  have hB : 0 < B := Nat.pos_of_ne_zero fun h => by subst h; omega
  constructor
  · rintro ⟨_, h⟩ k
    have hk := k.isLt
    have hq : k.val / B < J := (Nat.div_lt_iff_lt_mul hB).mpr hk
    rw [← hg (k.val / B) hq ⟨k.val % B, Nat.mod_lt _ hB⟩ k (by show k.val = k.val / B * B + k.val % B; exact (Nat.div_add_mod' _ _).symm)]
    exact h _ hq hq _
  · intro h
    refine ⟨(abs_nonneg' _).trans (h ⟨0, hJ⟩), fun i hi _ x => ?_⟩
    have hx := x.isLt
    have hlt : i * B + x.val < J * B := by
      calc i * B + x.val < i * B + B := by omega
        _ = (i + 1) * B := by rw [Nat.succ_mul]
        _ ≤ J * B := Nat.mul_le_mul_right B hi
    rw [hg i hi x ⟨i * B + x.val, hlt⟩ rfl]
    exact h _

end Cert.Quant

end
-- ==== Proof.Spec.lean ====
/- What both programs compute, on the extended reals. -/
module

public import proofs.«01_k».proof.Proof.Arith

@[expose] public section

set_option maxRecDepth 16384

noncomputable section

namespace Cert.Quant

open Idealize.ShloMosaic

/-! Throughout, `x` is the activations' matrix, `w` the weights' codes and `s` the weights' scales. -/

/-- An activation row's scale. -/
def xScale (x : Fin 128 → Fin 4096 → EReal) (a : Fin 128) : EReal := scaleOf (rowMax (x a))
/-- An activation's code. -/
def xCode (x : Fin 128 → Fin 4096 → EReal) (a : Fin 128) (k : Fin 4096) : BitVec 8 := code (x a k) (xScale x a)
/-- A scaled product: the integer dot product of a row of codes with a column of weights, times the two scales. -/
def prod (x : Fin 128 → Fin 4096 → EReal) (w : Fin 4096 → Fin 14336 → BitVec 8) (s : Fin 14336 → EReal) (a : Fin 128) (n : Fin 14336) : EReal :=
  FloatOps.sitofp (F := Ideal) .f32 (dotWord (xCode x a) (fun k => w k n)) * xScale x a * s n
/-- A product row's scale. -/
def yScale (x : Fin 128 → Fin 4096 → EReal) (w : Fin 4096 → Fin 14336 → BitVec 8) (s : Fin 14336 → EReal) (a : Fin 128) : EReal :=
  scaleOf (rowMax (prod x w s a))
/-- A product's code. -/
def yCode (x : Fin 128 → Fin 4096 → EReal) (w : Fin 4096 → Fin 14336 → BitVec 8) (s : Fin 14336 → EReal) (a : Fin 128) (n : Fin 14336) : BitVec 8 :=
  code (prod x w s a n) (yScale x w s a)

end Cert.Quant

end
-- ==== Proof.KernelValues.lean ====
/- The kernel's five results, element by element. -/
module

public import proofs.«01_k».proof.Proof.Final
public import proofs.«01_k».proof.Proof.KernelRows
public import proofs.«01_k».proof.Proof.KernelBlocks
public import proofs.«01_k».proof.Proof.Spec

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.Quant

/-! ## One block of scaled products -/

/-- A chunk of a row, element by element. -/
theorem ld_row {e : EltTy} (v : Vec F S128x4096 e) (o : ℕ) (inb : ∀ a, (![0, o] : Fin 2 → ℕ) a + S128x1024.size a ≤ S128x4096.size a) (ho : o + 1024 ≤ 4096)
    (a : Fin 128) (k : Fin 1024) : View.ld v (Rect.unit (s := S128x4096) ![0, o] S128x1024.size inb) (ix2 a k) = v (ix2 a ⟨o + k.val, by omega⟩) := by
  refine congrArg v (funext fun d => Fin.ext ?_)
  fin_cases d
  · show 0 + 1 * a.val = a.val
    omega
  · show o + 1 * k.val = o + k.val
    omega
/-- A chunk of a column, element by element. -/
theorem ld_col {e : EltTy} (v : Vec F S4096x512 e) (o : ℕ) (inb : ∀ a, (![o, 0] : Fin 2 → ℕ) a + S1024x512.size a ≤ S4096x512.size a) (ho : o + 1024 ≤ 4096)
    (k : Fin 1024) (n : Fin 512) : View.ld v (Rect.unit (s := S4096x512) ![o, 0] S1024x512.size inb) (ix2 k n) = v (ix2 ⟨o + k.val, by omega⟩ n) := by
  refine congrArg v (funext fun d => Fin.ext ?_)
  fin_cases d
  · show o + 1 * k.val = o + k.val
    omega
  · show 0 + 1 * n.val = n.val
    omega

/-- A chunk's dot product as a word. -/
theorem chunk_apply (v : Vec Ideal S128x4096 .bf16) (u : Fin 4096 → BitVec 8) (wb : Vec Ideal S4096x512 .i8) (o : ℕ) (ho : o + 1024 ≤ 4096)
    (inb : ∀ a, (![0, o] : Fin 2 → ℕ) a + S128x1024.size a ≤ S128x4096.size a) (inb' : ∀ a, (![o, 0] : Fin 2 → ℕ) a + S1024x512.size a ≤ S4096x512.size a)
    (a : Fin 128) (n : Fin 512) (hv : ∀ k, v (ix2 a k) = (((u k).toInt : ℝ) : EReal)) :
    FloatOps.fptosi (F := Ideal) (φ := .f32) 32 (∑ x : Fin 1024, View.ld v (Rect.unit (s := S128x4096) ![0, o] S128x1024.size inb) (ix2 a x) *
        FloatOps.sitofp (F := Ideal) .bf16 (View.ld wb (Rect.unit (s := S4096x512) ![o, 0] S1024x512.size inb') (ix2 x n)))
      = BitVec.ofInt 32 (∑ x ∈ Finset.range 1024, term u (fun k => wb (ix2 k n)) (o + x)) := by
  rw [← chunk_word u (fun k => wb (ix2 k n)) o ho]
  refine congrArg _ (Finset.sum_congr rfl fun k _ => ?_)
  rw [ld_row v o inb ho a k, ld_col wb o inb' ho k n, hv]
  rfl

/-- A block of scaled products at an element. -/
theorem yfBlk_apply (x : Vec Ideal S128x4096 .bf16) (wb : Vec Ideal S4096x512 .i8) (ws : Vec Ideal S1x512 .f32) (a : Fin 128) (n : Fin 512) :
    yfBlk (k0_pay46 x) wb (k0_pay47 x) ws (ix2 a n)
      = FloatOps.sitofp (F := Ideal) .f32 (dotWord (xCode (fun a k => x (ix2 a k)) a) (fun k => wb (ix2 k n)))
          * xScale (fun a k => x (ix2 a k)) a * ws (ix2 0 n) := by
  have hv : ∀ k, k0_pay46 x (ix2 a k) = (((xCode (fun a k => x (ix2 a k)) a k).toInt : ℝ) : EReal) := fun k => by
    rw [pay46_apply]
    exact (code_toInt _ _).symm
  unfold yfBlk
  rw [pay1_apply, pay50_apply,
    chunk_apply (k0_pay46 x) _ wb 0 (by omega) inb_S128x4096_S128x1024_0_0 inb_S4096x512_S1024x512_0_0 a n hv,
    chunk_apply (k0_pay46 x) _ wb 1024 (by omega) inb_S128x4096_S128x1024_0_1024 inb_S4096x512_S1024x512_1024_0 a n hv,
    chunk_apply (k0_pay46 x) _ wb 2048 (by omega) inb_S128x4096_S128x1024_0_2048 inb_S4096x512_S1024x512_2048_0 a n hv,
    chunk_apply (k0_pay46 x) _ wb 3072 (by omega) inb_S128x4096_S128x1024_0_3072 inb_S4096x512_S1024x512_3072_0 a n hv,
    four_words, pay47_apply]
  rfl

/-! ## The run's values -/

variable (m : (ℓ : Loc nD τ sig) → Buf (Elt Ideal) ℓ)

/-- The activations' matrix. -/
def X (c : Dev nD) : Fin 128 → Fin 4096 → EReal := fun a k => (m ((c : Thread nD τ).loc main_arg0) : Vec Ideal S1x128x4096 .bf16) (ix3 0 a k)
/-- The weights' codes. -/
def W (c : Dev nD) : Fin 4096 → Fin 14336 → BitVec 8 := fun k n => (m ((c : Thread nD τ).loc main_arg1) : Vec Ideal S4096x14336 .i8) (ix2 k n)
/-- The weights' scales. -/
def S (c : Dev nD) : Fin 14336 → EReal := fun n => (m ((c : Thread nD τ).loc main_arg2) : Vec Ideal S14336 .f32) (ix1 n)

/-- The activations' block is the activations' matrix. -/
theorem X0_eq (c : Dev nD) : (fun (a : Fin 128) (k : Fin 4096) => X0 m c (ix2 a k)) = X m c :=
  funext fun a => funext fun k => X0_apply m c a k

/-- A point's block of scaled products, element by element. -/
theorem YF_apply (c : Dev nD) (t : Fin cfg0.N) (a : Fin 128) (n : Fin 512) (N : Fin 14336) (hN : N.val = t.val * 512 + n.val) :
    YF m c t (ix2 a n) = prod (X m c) (W m c) (S m c) a N := by
  unfold YF
  have hw : (fun k => iblk m c 1 t (ix2 k n)) = fun k => W m c k N := funext fun k => W_apply m c t k n N hN
  refine (yfBlk_apply (X0 m c) (iblk m c 1 t) (iblk m c 2 t) a n).trans ?_
  rw [X0_eq]
  refine (congrArg (fun q => FloatOps.sitofp (F := Ideal) .f32 (dotWord (xCode (X m c) a) q) * xScale (X m c) a * iblk m c 2 t (ix2 0 n)) hw).trans ?_
  exact congrArg (fun q => FloatOps.sitofp (F := Ideal) .f32 (dotWord (xCode (X m c) a) (fun k => W m c k N)) * xScale (X m c) a * q) (S_apply m c t n N hN)

/-- After the last point the running row maxima are the rows' largest absolute values. -/
theorem maxN_apply (c : Dev nD) (a : Fin 128) : maxN m c 28 (ix2 a 0) = rowMax (prod (X m c) (W m c) (S m c) a) := by
  refine running_max 28 512 (by decide) (prod (X m c) (W m c) (S m c) a)
    (fun j hj n => YF m c ⟨j, lt_of_lt_of_eq hj (show 28 = cfg0.N from N_0.symm)⟩ (ix2 a n))
    (fun j hj n N hN => YF_apply m c ⟨j, lt_of_lt_of_eq hj (show 28 = cfg0.N from N_0.symm)⟩ a n N hN)
    (fun j => maxN m c j (ix2 a 0)) (pay49_apply a) (fun j hj => ?_)
  show maxN m c (j + 1) (ix2 a 0) = _
  rw [maxN_succ m c ⟨j, lt_of_lt_of_eq hj (show 28 = cfg0.N from N_0.symm)⟩, maxBlk_apply]

/-- The products' scales, as the last point computes them. -/
theorem ysc_apply (c : Dev nD) (a : Fin 128) : k0_pay6 (F := Ideal) (maxN m c 28) (ix2 a 0) = yScale (X m c) (W m c) (S m c) a := by
  rw [pay6_apply, maxN_apply]
  rfl

/-- A leading unit axis added over the products' shape, at an index. -/
theorem addY_apply {e : EltTy} (v : Vec F S128x14336 e) (a : Fin 128) (n : Fin 14336) :
    shapeCast S1x128x14336 v shapeCasts_S128x14336_S1x128x14336 (ix3 0 a n) = v (ix2 a n) := by
  pointwise
/-- A leading unit axis added over the activations' shape, at an index. -/
theorem addX_apply {e : EltTy} (v : Vec F S128x4096 e) (a : Fin 128) (k : Fin 4096) :
    shapeCast S1x128x4096 v shapeCasts_S128x4096_S1x128x4096 (ix3 0 a k) = v (ix2 a k) := by
  pointwise

/-- The result `y` at an element. -/
theorem y_apply (c : Dev nD) (a : Fin 128) (n : Fin 14336) :
    shapeCast S1x128x14336 (YALL m c) shapeCasts_S128x14336_S1x128x14336 (ix3 0 a n) = prod (X m c) (W m c) (S m c) a n := by
  rw [addY_apply]
  show yBlk (YF m c (ptOf n)) (ix2 a (colOf n)) = _
  rw [yBlk_apply]
  exact YF_apply m c (ptOf n) a (colOf n) n (by show n.val = n.val / 512 * 512 + n.val % 512; omega)
/-- The activations' codes at an element. -/
theorem xq_apply (c : Dev nD) (a : Fin 128) (k : Fin 4096) :
    shapeCast S1x128x4096 (k0_pay45 (X0 m c)) shapeCasts_S128x4096_S1x128x4096 (ix3 0 a k) = xCode (X m c) a k := by
  refine (addX_apply (F := Ideal) (e := .i8) _ a k).trans ?_
  rw [pay45_apply, ← X0_eq]
  rfl
/-- The activations' scales at an element. -/
theorem xs_apply (c : Dev nD) (a : Fin 128) : k0_pay48 (X0 m c) (ix2 0 a) = xScale (X m c) a := by
  rw [pay48_apply, ← X0_eq]
  rfl
/-- The products' codes at an element. -/
theorem yq_apply (c : Dev nD) (a : Fin 128) (n : Fin 14336) :
    shapeCast S1x128x14336 (quantAll (k0_pay6 (maxN m c 28)) (ALL m c)) shapeCasts_S128x14336_S1x128x14336 (ix3 0 a n)
      = yCode (X m c) (W m c) (S m c) a n := by
  refine (addY_apply (F := Ideal) (e := .i8) _ a n).trans ?_
  show k0_pay12 (k0_pay6 (maxN m c 28)) (slab (ALL m c) ⟨n.val / 512, _⟩) (ix2 a (colOf n)) = _
  rw [pay12_apply, ysc_apply]
  exact congrArg (fun q => code q (yScale (X m c) (W m c) (S m c) a))
    (YF_apply m c (ptOf n) a (colOf n) n (by show n.val = n.val / 512 * 512 + n.val % 512; omega))
/-- The products' scales at an element. -/
theorem ys_apply (c : Dev nD) (a : Fin 128) : k0_pay7 (maxN m c 28) (ix2 0 a) = yScale (X m c) (W m c) (S m c) a := by
  rw [pay7_apply, maxN_apply]
  rfl

end Cert.KernelIdeal.Body

end
-- ==== Proof.RefFinal.lean ====
/- What the reference's arrays hold when the program has run, in terms of the arguments. -/
module

public import proofs.«01_k».proof.Proof.Gen.ReferenceIdeal.Frame
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The activations. -/
abbrev A0 (c : Dev nD) : Vec F S1x128x4096 .bf16 := m ((c : Thread nD τ).loc main_arg0)
/-- The weights. -/
abbrev A1 (c : Dev nD) : Vec F S4096x14336 .i8 := m ((c : Thread nD τ).loc main_arg1)
/-- The weights' scales. -/
abbrev A2 (c : Dev nD) : Vec F S14336 .f32 := m ((c : Thread nD τ).loc main_arg2)

/-- Window 0's block is its whole array. -/
theorem idx0 : ∀ t : Fin cfg0.N, win0_0.index t = ![0, 0, 0] := (by decide +kernel : ∀ t : Fin grid0.N, _)
/-- Window 1's block is its whole array. -/
theorem idx1 : ∀ t : Fin cfg0.N, win0_1.index t = ![0, 0] := (by decide +kernel : ∀ t : Fin grid0.N, _)
/-- Window 2's block is its whole array. -/
theorem idx2 : ∀ t : Fin cfg0.N, win0_2.index t = ![0] := (by decide +kernel : ∀ t : Fin grid0.N, _)
/-- Window 3's block is its whole array. -/
theorem idx3 : ∀ t : Fin cfg0.N, win0_3.index t = ![0, 0, 0] := (by decide +kernel : ∀ t : Fin grid0.N, _)
/-- Window 4's block is its whole array. -/
theorem idx4 : ∀ t : Fin cfg0.N, win0_4.index t = ![0, 0, 0] := (by decide +kernel : ∀ t : Fin grid0.N, _)
/-- Window 5's block is its whole array. -/
theorem idx5 : ∀ t : Fin cfg0.N, win0_5.index t = ![0, 0] := (by decide +kernel : ∀ t : Fin grid0.N, _)
/-- Window 6's block is its whole array. -/
theorem idx6 : ∀ t : Fin cfg0.N, win0_6.index t = ![0, 0, 0] := (by decide +kernel : ∀ t : Fin grid0.N, _)
/-- Window 7's block is its whole array. -/
theorem idx7 : ∀ t : Fin cfg0.N, win0_7.index t = ![0, 0] := (by decide +kernel : ∀ t : Fin grid0.N, _)

/-- The first input's block is the activations. -/
theorem in0_eq (c : Dev nD) (t : Fin cfg0.N) : iblk m c 0 t = A0 m c := by
  funext y
  have e : iblk m c 0 t y = (V m c main_arg0 : Vec F S1x128x4096 .bf16) y :=
    congrArg (V m c main_arg0 : Vec F S1x128x4096 .bf16) (show (win0_0.blk t).view.emb y = y from by blk_ext [idx0])
  rw [e, V_main_arg0]
/-- The second input's block is the weights. -/
theorem in1_eq (c : Dev nD) (t : Fin cfg0.N) : iblk m c 1 t = A1 m c := by
  funext y
  have e : iblk m c 1 t y = (V m c main_arg1 : Vec F S4096x14336 .i8) y :=
    congrArg (V m c main_arg1 : Vec F S4096x14336 .i8) (show (win0_1.blk t).view.emb y = y from by blk_ext [idx1])
  rw [e, V_main_arg1]
/-- The third input's block is the weights' scales. -/
theorem in2_eq (c : Dev nD) (t : Fin cfg0.N) : iblk m c 2 t = A2 m c := by
  funext y
  have e : iblk m c 2 t y = (V m c main_arg2 : Vec F S14336 .f32) y :=
    congrArg (V m c main_arg2 : Vec F S14336 .f32) (show (win0_2.blk t).view.emb y = y from by blk_ext [idx2])
  rw [e, V_main_arg2]

/-- The scaled products, from the inputs' buffers. -/
theorem pay8_eq (x0 : Vec F S1x128x4096 .bf16) (x1 : Vec F S4096x14336 .i8) (x2 : Vec F S14336 .f32) : k0_pay8 x0 x1 x2 = k0_pay6 x0 x1 x2 := by
  have e0 : View.ld x0 r0_0 = x0 := View.ld_unit_lit _ x0 (by decide)
  have e1 : View.ld x1 r0_1 = x1 := View.ld_unit_lit _ x1 (by decide)
  have e2 : View.ld x2 r0_2 = x2 := View.ld_unit_lit _ x2 (by decide)
  unfold k0_pay8
  rw [e0, e1, e2]
/-- The result `y` as the body's one point writes it. -/
theorem out3_eq (x0 : Vec F S1x128x4096 .bf16) (x1 : Vec F S4096x14336 .i8) (x2 : Vec F S14336 .f32) : out0_3 x0 x1 x2 = k0_pay7 x0 x1 x2 := by
  funext y
  frame_out
/-- The activations' codes as the body's one point writes it. -/
theorem out4_eq (x0 : Vec F S1x128x4096 .bf16) (x1 : Vec F S4096x14336 .i8) (x2 : Vec F S14336 .f32) : out0_4 x0 x1 x2 = k0_pay5 x0 := by
  funext y
  frame_out
/-- The activations' scales as the body's one point writes it. -/
theorem out5_eq (x0 : Vec F S1x128x4096 .bf16) (x1 : Vec F S4096x14336 .i8) (x2 : Vec F S14336 .f32) : out0_5 x0 x1 x2 = k0_pay4 x0 := by
  funext y
  frame_out
/-- The codes of the products as the body's one point writes it. -/
theorem out6_eq (x0 : Vec F S1x128x4096 .bf16) (x1 : Vec F S4096x14336 .i8) (x2 : Vec F S14336 .f32) : out0_6 x0 x1 x2 = k0_pay2 (k0_pay6 x0 x1 x2) := by
  funext y
  frame_out
  rw [pay8_eq]
/-- The scales of the products as the body's one point writes it. -/
theorem out7_eq (x0 : Vec F S1x128x4096 .bf16) (x1 : Vec F S4096x14336 .i8) (x2 : Vec F S14336 .f32) : out0_7 x0 x1 x2 = k0_pay1 (k0_pay6 x0 x1 x2) := by
  funext y
  frame_out
  rw [pay8_eq]
/-- The result `y` after the run. -/
theorem final_3 (c : Dev nD) : (dats m 0 c).arrAt 3 cfg0.N = k0_pay7 (A0 m c) (A1 m c) (A2 m c) := by
  refine (dats m 0 c).arrAt_eq_of_covers 3 _ (by decide +kernel) fun t hf y => ?_
  blk_simp
  rw [after0_3, in0_eq, in1_eq, in2_eq]
  rw [out3_eq]
  exact congrArg _ (by blk_ext [idx3])
/-- The activations' codes after the run. -/
theorem final_4 (c : Dev nD) : (dats m 0 c).arrAt 4 cfg0.N = k0_pay5 (A0 m c) := by
  refine (dats m 0 c).arrAt_eq_of_covers 4 _ (by decide +kernel) fun t hf y => ?_
  blk_simp
  rw [after0_4, in0_eq, in1_eq, in2_eq]
  rw [out4_eq]
  exact congrArg _ (by blk_ext [idx4])
/-- The activations' scales after the run. -/
theorem final_5 (c : Dev nD) : (dats m 0 c).arrAt 5 cfg0.N = k0_pay4 (A0 m c) := by
  refine (dats m 0 c).arrAt_eq_of_covers 5 _ (by decide +kernel) fun t hf y => ?_
  blk_simp
  rw [after0_5, in0_eq, in1_eq, in2_eq]
  rw [out5_eq]
  exact congrArg _ (by blk_ext [idx5])
/-- The codes of the products after the run. -/
theorem final_6 (c : Dev nD) : (dats m 0 c).arrAt 6 cfg0.N = k0_pay2 (k0_pay6 (A0 m c) (A1 m c) (A2 m c)) := by
  refine (dats m 0 c).arrAt_eq_of_covers 6 _ (by decide +kernel) fun t hf y => ?_
  blk_simp
  rw [after0_6, in0_eq, in1_eq, in2_eq]
  rw [out6_eq]
  exact congrArg _ (by blk_ext [idx6])
/-- The scales of the products after the run. -/
theorem final_7 (c : Dev nD) : (dats m 0 c).arrAt 7 cfg0.N = k0_pay1 (k0_pay6 (A0 m c) (A1 m c) (A2 m c)) := by
  refine (dats m 0 c).arrAt_eq_of_covers 7 _ (by decide +kernel) fun t hf y => ?_
  blk_simp
  rw [after0_7, in0_eq, in1_eq, in2_eq]
  rw [out7_eq]
  exact congrArg _ (by blk_ext [idx7])

/-- The five results after the run. -/
theorem results : θ_run defs (onTc (τ := τ) (main (F := F))) ⟨m, fun _ => 0, ρ⟩ (fun r => ∀ c : Dev nD,
      r.2.mem ((c.tc : Thread nD τ).loc main_v0_0) = k0_pay7 (A0 m c) (A1 m c) (A2 m c)
      ∧ r.2.mem ((c.tc : Thread nD τ).loc main_v0_1) = k0_pay5 (A0 m c)
      ∧ r.2.mem ((c.tc : Thread nD τ).loc main_v0_2) = k0_pay4 (A0 m c)
      ∧ r.2.mem ((c.tc : Thread nD τ).loc main_v0_3) = k0_pay2 (k0_pay6 (A0 m c) (A1 m c) (A2 m c))
      ∧ r.2.mem ((c.tc : Thread nD τ).loc main_v0_4) = k0_pay1 (k0_pay6 (A0 m c) (A1 m c) (A2 m c))) :=
  (θ_run defs _ _).mono (fun _ h c =>
    ⟨((h c).1 3).trans (final_3 m c), ((h c).1 4).trans (final_4 m c), ((h c).1 5).trans (final_5 m c),
     ((h c).1 6).trans (final_6 m c), ((h c).1 7).trans (final_7 m c)⟩) (run_main m ρ)

end Cert.ReferenceIdeal.Body

end
-- ==== Proof.RefRows.lean ====
/- The reference's scales and codes, element by element. -/
module

public import proofs.«01_k».proof.Proof.RefFinal
public import proofs.«01_k».proof.Proof.Quant
public import Idealize.ShloMosaic.Lib.Pointwise

@[expose] public section

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

open Cert.Quant

/-- The largest absolute value along the last of three axes. -/
theorem rowMax_apply {n0 n1 n2 : ℕ} (v : FVec Ideal (⟨3, ![n0, n1, n2]⟩ : Shape) .f32) (h : (⟨3, ![n0, n1, n2]⟩ : Shape).Reduces [2] (⟨2, ![n0, n1]⟩ : Shape))
    (hφ : FKind.Formats .f32) (hacc : 0xFF800000#32 = FKind.maximumf.neutral .f32 hφ) (a : Fin n0) (b : Fin n1) :
    multiReduction .maximumf [2] (⟨2, ![n0, n1]⟩ : Shape) (absf v) 0xFF800000#32 h hφ hacc (ix2 a b) = rowMax fun n => v (ix3 a b n) := by
  rw [multiReduction_maximumf_eq_fold, Shape.Reduces.fold_fiber_r3_a2]
  rfl
/-- A row value spread along the row. -/
theorem spread_apply {n : ℕ} (r : FVec Ideal S1x128 .f32) (h : S1x128x1.Broadcasts (⟨3, ![1, 128, n]⟩ : Shape)) (a : Fin 128) (k : Fin n) :
    broadcastTo (⟨3, ![1, 128, n]⟩ : Shape) (shapeCast S1x128x1 r shapeCasts_S1x128_S1x128x1) h (ix3 0 a k) = r (ix2 0 a) := by
  pointwise
/-- A row's scale from its largest absolute value. -/
theorem scale_apply (r : FVec Ideal S1x128 .f32) (a : Fin 128) :
    select (cmpf .oeq r (broadcast S1x128 (Scalar.ofBits .f32 0x00000000#32))) (broadcast S1x128 (Scalar.ofBits .f32 0x3F800000#32))
      (divf r (broadcast S1x128 (Scalar.ofBits .f32 0x42FE0000#32))) (ix2 0 a) = scaleOf (r (ix2 0 a)) := by
  unfold scaleOf
  pointwise
/-- A row's codes from its scale. -/
theorem codes_apply {n : ℕ} (v : FVec Ideal (⟨3, ![1, 128, n]⟩ : Shape) .f32) (r : FVec Ideal S1x128 .f32) (h : S1x128x1.Broadcasts (⟨3, ![1, 128, n]⟩ : Shape))
    (a : Fin 128) (k : Fin n) :
    fptosi 8 (minimumf (broadcast (⟨3, ![1, 128, n]⟩ : Shape) (Scalar.ofBits .f32 0x42FE0000#32))
      (maximumf (broadcast (⟨3, ![1, 128, n]⟩ : Shape) (Scalar.ofBits .f32 0xC2FE0000#32))
        (roundeven (divf v (broadcastTo (⟨3, ![1, 128, n]⟩ : Shape) (shapeCast S1x128x1 r shapeCasts_S1x128_S1x128x1) h))))) (ix3 0 a k)
      = code (v (ix3 0 a k)) (r (ix2 0 a)) := by
  rw [← spread_apply r h a k]
  rfl

/-- The activations' scales. -/
theorem pay4_apply (x : Vec Ideal S1x128x4096 .bf16) (a : Fin 128) :
    k0_pay4 x (ix2 0 a) = scaleOf (rowMax fun k => x (ix3 0 a k)) := by
  unfold k0_pay4
  exact (scale_apply _ a).trans (congrArg scaleOf (rowMax_apply (k0_pay3 x) _ _ _ 0 a))
/-- The activations' codes. -/
theorem pay5_apply (x : Vec Ideal S1x128x4096 .bf16) (a : Fin 128) (k : Fin 4096) :
    k0_pay5 x (ix3 0 a k) = code (x (ix3 0 a k)) (scaleOf (rowMax fun k => x (ix3 0 a k))) := by
  rw [← pay4_apply]
  unfold k0_pay5
  exact codes_apply (k0_pay3 x) (k0_pay4 x) _ a k
/-- The products' scales. -/
theorem pay1_apply (x : FVec Ideal S1x128x14336 .f32) (a : Fin 128) :
    k0_pay1 x (ix2 0 a) = scaleOf (rowMax fun n => x (ix3 0 a n)) := by
  unfold k0_pay1
  exact (scale_apply _ a).trans (congrArg scaleOf (rowMax_apply x _ _ _ 0 a))
/-- The products' codes. -/
theorem pay2_apply (x : FVec Ideal S1x128x14336 .f32) (a : Fin 128) (n : Fin 14336) :
    k0_pay2 x (ix3 0 a n) = code (x (ix3 0 a n)) (scaleOf (rowMax fun n => x (ix3 0 a n))) := by
  rw [← pay1_apply]
  unfold k0_pay2
  exact codes_apply x (k0_pay1 x) _ a n
/-- The result `y`. -/
theorem pay7_apply (x : Vec Ideal S1x128x4096 .bf16) (w : Vec Ideal S4096x14336 .i8) (s : Vec Ideal S14336 .f32) (a : Fin 128) (n : Fin 14336) :
    k0_pay7 x w s (ix3 0 a n) = k0_pay6 x w s (ix3 0 a n) := by
  pointwise [k0_pay7]

end Cert.ReferenceIdeal.Body

end
-- ==== Proof.RefProducts.lean ====
/- The reference's scaled products, element by element. -/
module

public import proofs.«01_k».proof.Proof.RefFinal
public import proofs.«01_k».proof.Proof.Quant
public import Idealize.ShloMosaic.Lib.Pointwise

@[expose] public section

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

set_option maxHeartbeats 4000000
open Cert.Quant
/-- The scaled products: the eight groups' dot products as 32-bit words, added, times the two scales. -/
theorem pay6_apply (x : Vec Ideal S1x128x4096 .bf16) (w : Vec Ideal S4096x14336 .i8) (s : Vec Ideal S14336 .f32) (a : Fin 128) (n : Fin 14336) :
    k0_pay6 x w s (ix3 0 a n) =
      FloatOps.sitofp (F := Ideal) .f32
          (Finset.fold IntOp.addi (0#32)
            (fun j : Fin 8 =>
              FloatOps.fptosi (F := Ideal) (φ := .f32) 32
                (∑ l : Fin 512,
                  FloatOps.sitofp (F := Ideal) .bf16 (w (ix2 ⟨j.val * 512 + l.val, by omega⟩ n)) *
                    FloatOps.sitofp (F := Ideal) .bf16 (k0_pay5 x (ix3 0 a ⟨j.val * 512 + l.val, by omega⟩))))
            Finset.univ) *
        k0_pay4 x (ix2 0 a) *
      s (ix1 n) := by
  pointwise [k0_pay6]

end Cert.ReferenceIdeal.Body

end
-- ==== Proof.RefValues.lean ====
/- The reference's five results, element by element. -/
module

public import proofs.«01_k».proof.Proof.RefFinal
public import proofs.«01_k».proof.Proof.RefRows
public import proofs.«01_k».proof.Proof.RefProducts
public import proofs.«01_k».proof.Proof.Spec

@[expose] public section

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

open Cert.Quant

variable (m : (ℓ : Loc nD τ sig) → Buf (Elt Ideal) ℓ)

/-- The activations' matrix. -/
def X (c : Dev nD) : Fin 128 → Fin 4096 → EReal := fun a k => A0 m c (ix3 0 a k)
/-- The weights' codes. -/
def W (c : Dev nD) : Fin 4096 → Fin 14336 → BitVec 8 := fun k n => A1 m c (ix2 k n)
/-- The weights' scales. -/
def S (c : Dev nD) : Fin 14336 → EReal := fun n => A2 m c (ix1 n)

/-- A scaled product, from the inputs. -/
theorem prod_apply (x : Vec Ideal S1x128x4096 .bf16) (w : Vec Ideal S4096x14336 .i8) (s : Vec Ideal S14336 .f32) (a : Fin 128) (n : Fin 14336) :
    k0_pay6 x w s (ix3 0 a n) = prod (fun a k => x (ix3 0 a k)) (fun k n => w (ix2 k n)) (fun n => s (ix1 n)) a n := by
  rw [pay6_apply, pay4_apply]
  simp only [pay5_apply]
  exact congrArg (fun q => FloatOps.sitofp (F := Ideal) .f32 q * scaleOf (rowMax fun k => x (ix3 0 a k)) * s (ix1 n))
    (eight_groups (xCode (fun a k => x (ix3 0 a k)) a) (fun k => w (ix2 k n)))

/-- The result `y` at an element. -/
theorem y_apply (c : Dev nD) (a : Fin 128) (n : Fin 14336) : k0_pay7 (A0 m c) (A1 m c) (A2 m c) (ix3 0 a n) = prod (X m c) (W m c) (S m c) a n := by
  rw [pay7_apply]
  exact prod_apply _ _ _ a n
/-- The activations' codes at an element. -/
theorem xq_apply (c : Dev nD) (a : Fin 128) (k : Fin 4096) : k0_pay5 (A0 m c) (ix3 0 a k) = xCode (X m c) a k := pay5_apply _ a k
/-- The activations' scales at an element. -/
theorem xs_apply (c : Dev nD) (a : Fin 128) : k0_pay4 (A0 m c) (ix2 0 a) = xScale (X m c) a := pay4_apply _ a
/-- A row of scaled products. -/
theorem row_eq (c : Dev nD) (a : Fin 128) : (fun n => k0_pay6 (A0 m c) (A1 m c) (A2 m c) (ix3 0 a n)) = prod (X m c) (W m c) (S m c) a :=
  funext fun n => prod_apply _ _ _ a n
/-- The products' codes at an element. -/
theorem yq_apply (c : Dev nD) (a : Fin 128) (n : Fin 14336) :
    k0_pay2 (k0_pay6 (A0 m c) (A1 m c) (A2 m c)) (ix3 0 a n) = yCode (X m c) (W m c) (S m c) a n := by
  rw [pay2_apply, row_eq]
  exact congrArg (fun q => code q (yScale (X m c) (W m c) (S m c) a)) (prod_apply _ _ _ a n)
/-- The products' scales at an element. -/
theorem ys_apply (c : Dev nD) (a : Fin 128) :
    k0_pay1 (k0_pay6 (A0 m c) (A1 m c) (A2 m c)) (ix2 0 a) = yScale (X m c) (W m c) (S m c) a := by
  rw [pay1_apply, row_eq]
  rfl

end Cert.ReferenceIdeal.Body

end
-- ==== Proof.Agree.lean ====
/- The two programs' results agree when their arguments do. -/
module

public import proofs.«01_k».proof.Proof.KernelValues
public import proofs.«01_k».proof.Proof.RefValues

@[expose] public section

set_option maxRecDepth 16384

noncomputable section

namespace Cert.Quant

open Idealize.ShloMosaic

/-- An index into three axes, the first of extent one, from its last two coordinates. -/
theorem eta3 {n1 n2 : ℕ} (i : (⟨3, ![1, n1, n2]⟩ : Shape).Idx) : ix3 (0 : Fin 1) (i 1 : Fin n1) (i 2 : Fin n2) = i := by
  funext a
  fin_cases a
  · exact Fin.ext (Nat.lt_one_iff.mp (i 0).isLt).symm
  · rfl
  · rfl
/-- An index into two axes, the first of extent one, from its last coordinate. -/
theorem eta2 {n1 : ℕ} (i : (⟨2, ![1, n1]⟩ : Shape).Idx) : ix2 (0 : Fin 1) (i 1 : Fin n1) = i := by
  funext a
  fin_cases a
  · exact Fin.ext (Nat.lt_one_iff.mp (i 0).isLt).symm
  · rfl

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The two results `y` agree. -/
theorem y_eq (hX : Cert.KernelIdeal.Body.X m c = Cert.ReferenceIdeal.Body.X m' c)
    (hW : Cert.KernelIdeal.Body.W m c = Cert.ReferenceIdeal.Body.W m' c) (hS : Cert.KernelIdeal.Body.S m c = Cert.ReferenceIdeal.Body.S m' c) :
    Cert.ReferenceIdeal.Gen.k0_pay7 (Cert.ReferenceIdeal.Body.A0 m' c) (Cert.ReferenceIdeal.Body.A1 m' c) (Cert.ReferenceIdeal.Body.A2 m' c)
      = shapeCast Cert.KernelIdeal.S1x128x14336 (Cert.KernelIdeal.Body.YALL m c) Cert.KernelIdeal.Gen.shapeCasts_S128x14336_S1x128x14336 := by
  funext i
  rw [← eta3 i]
  refine (Cert.ReferenceIdeal.Body.y_apply m' c (i 1) (i 2)).trans ?_
  rw [← hX, ← hW, ← hS]
  exact (Cert.KernelIdeal.Body.y_apply m c (i 1) (i 2)).symm
/-- The activations' codes agree. -/
theorem xq_eq (hX : Cert.KernelIdeal.Body.X m c = Cert.ReferenceIdeal.Body.X m' c) :
    Cert.ReferenceIdeal.Gen.k0_pay5 (Cert.ReferenceIdeal.Body.A0 m' c)
      = shapeCast Cert.KernelIdeal.S1x128x4096 (Cert.KernelIdeal.Gen.k0_pay45 (Cert.KernelIdeal.Body.X0 m c)) Cert.KernelIdeal.Gen.shapeCasts_S128x4096_S1x128x4096 := by
  funext i
  rw [← eta3 i]
  refine (Cert.ReferenceIdeal.Body.xq_apply m' c (i 1) (i 2)).trans ?_
  rw [← hX]
  exact (Cert.KernelIdeal.Body.xq_apply m c (i 1) (i 2)).symm
/-- The activations' scales agree. -/
theorem xs_eq (hX : Cert.KernelIdeal.Body.X m c = Cert.ReferenceIdeal.Body.X m' c) :
    Cert.ReferenceIdeal.Gen.k0_pay4 (Cert.ReferenceIdeal.Body.A0 m' c)
      = Cert.KernelIdeal.Gen.k0_pay48 (Cert.KernelIdeal.Body.X0 m c) := by
  funext i
  rw [← eta2 i]
  refine (Cert.ReferenceIdeal.Body.xs_apply m' c (i 1)).trans ?_
  rw [← hX]
  exact (Cert.KernelIdeal.Body.xs_apply m c (i 1)).symm
/-- The products' codes agree. -/
theorem yq_eq (hX : Cert.KernelIdeal.Body.X m c = Cert.ReferenceIdeal.Body.X m' c)
    (hW : Cert.KernelIdeal.Body.W m c = Cert.ReferenceIdeal.Body.W m' c) (hS : Cert.KernelIdeal.Body.S m c = Cert.ReferenceIdeal.Body.S m' c) :
    Cert.ReferenceIdeal.Gen.k0_pay2 (Cert.ReferenceIdeal.Gen.k0_pay6 (Cert.ReferenceIdeal.Body.A0 m' c) (Cert.ReferenceIdeal.Body.A1 m' c) (Cert.ReferenceIdeal.Body.A2 m' c))
      = shapeCast Cert.KernelIdeal.S1x128x14336 (Cert.KernelIdeal.Body.quantAll (Cert.KernelIdeal.Gen.k0_pay6 (Cert.KernelIdeal.Body.maxN m c 28)) (Cert.KernelIdeal.Body.ALL m c)) Cert.KernelIdeal.Gen.shapeCasts_S128x14336_S1x128x14336 := by
  funext i
  rw [← eta3 i]
  refine (Cert.ReferenceIdeal.Body.yq_apply m' c (i 1) (i 2)).trans ?_
  rw [← hX, ← hW, ← hS]
  exact (Cert.KernelIdeal.Body.yq_apply m c (i 1) (i 2)).symm
/-- The products' scales agree. -/
theorem ys_eq (hX : Cert.KernelIdeal.Body.X m c = Cert.ReferenceIdeal.Body.X m' c)
    (hW : Cert.KernelIdeal.Body.W m c = Cert.ReferenceIdeal.Body.W m' c) (hS : Cert.KernelIdeal.Body.S m c = Cert.ReferenceIdeal.Body.S m' c) :
    Cert.ReferenceIdeal.Gen.k0_pay1 (Cert.ReferenceIdeal.Gen.k0_pay6 (Cert.ReferenceIdeal.Body.A0 m' c) (Cert.ReferenceIdeal.Body.A1 m' c) (Cert.ReferenceIdeal.Body.A2 m' c))
      = Cert.KernelIdeal.Gen.k0_pay7 (Cert.KernelIdeal.Body.maxN m c 28) := by
  funext i
  rw [← eta2 i]
  refine (Cert.ReferenceIdeal.Body.ys_apply m' c (i 1)).trans ?_
  rw [← hX, ← hW, ← hS]
  exact (Cert.KernelIdeal.Body.ys_apply m c (i 1)).symm

end Cert.Quant

end
-- ==== Proof.BitsSetup.lean ====
/- The frame of the kernel as printed: it ends with its arguments unchanged and every semaphore counter zero. -/
/- What the runs of the kernel's body share: its branch conditions by the grid point, the memrefs a point runs on, and the
   invariant of the launch with the four scratch buffers named. -/
module

public import proofs.«01_k».proof.Proof.Gen.Kernel.Frame
public import proofs.«01_k».proof.Proof.Gen.Kernel.Skeleton
public import Idealize.ShloMosaic.Lib.Pipeline.FrameBody
public import Idealize.ShloMosaic.Lib.Pipeline.FrameSuffix
public import Idealize.ShloMosaic.Lib.Tactic
public import Idealize.ShloMosaic.Lib.WordCmp

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, k0_cond1, e0]
    word_cmp
   : ∀ t : Fin grid0.N, cond0_0 (grid0.coords t) ↔ t.val % 28 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 28 = 27 :=
  (fun t => by
    have ht : t.val < 28 := Nat.lt_of_lt_of_eq t.isLt N_0
    have e0 : (grid0.coords t 0).val = t.val / 1 % 28 := Pipeline.Grid.coords_val t 0 (by decide) rfl
    simp only [cond0_1, k0_cond2, e0]
    word_cmp
   : ∀ t : Fin grid0.N, cond0_1 (grid0.coords t) ↔ t.val % 28 = 27)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x4096 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x14336 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x4096 .bf16 := Memref.whole cc0_scratch0
abbrev scM0_1 : Memref sig .tc .vmem S128x1 .f32 := Memref.whole cc0_scratch1
abbrev scM0_2 : Memref sig .tc .vmem S28x128x512 .f32 := Memref.whole cc0_scratch2
abbrev scM0_3 : Memref sig .tc .vmem S128x1 .f32 := Memref.whole cc0_scratch3
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Body

end
-- ==== Proof.BitsContents.lean ====
/- What one grid point computes, as plain functions of the blocks it reads and of the scratch buffers it finds. The kernel as printed, whose floats are words; its ideal form's text is the same. -/
module

public import proofs.«01_k».proof.Proof.BitsSetup
public import Idealize.ShloMosaic.Lib.VecWindow
public import Idealize.ShloMosaic.Lib.WholeRead
public import Idealize.ShloMosaic.Lib.Pointwise.Index

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## What one point computes -/

/-- The block of scaled products a point computes: the quantised activations `xq` against the point's weight block `w`, in four
    chunks of 1024, times the activations' scales `xs` and the weight block's scales `ws`. -/
def yfBlk (xq : Vec F S128x4096 .bf16) (w : Vec F S4096x512 .i8) (xs : Vec F S128x1 .f32) (ws : Vec F S1x512 .f32) : FVec F S128x512 .f32 :=
  k0_pay1 (k0_pay50
    (View.ld xq (Rect.unit (s := S128x4096) ![0, 0] S128x1024.size inb_S128x4096_S128x1024_0_0))
    (View.ld w (Rect.unit (s := S4096x512) ![0, 0] S1024x512.size inb_S4096x512_S1024x512_0_0))
    (View.ld xq (Rect.unit (s := S128x4096) ![0, 1024] S128x1024.size inb_S128x4096_S128x1024_0_1024))
    (View.ld w (Rect.unit (s := S4096x512) ![1024, 0] S1024x512.size inb_S4096x512_S1024x512_1024_0))
    (View.ld xq (Rect.unit (s := S128x4096) ![0, 2048] S128x1024.size inb_S128x4096_S128x1024_0_2048))
    (View.ld w (Rect.unit (s := S4096x512) ![2048, 0] S1024x512.size inb_S4096x512_S1024x512_2048_0))
    (View.ld xq (Rect.unit (s := S128x4096) ![0, 3072] S128x1024.size inb_S128x4096_S128x1024_0_3072))
    (View.ld w (Rect.unit (s := S4096x512) ![3072, 0] S1024x512.size inb_S4096x512_S1024x512_3072_0))
    xs) (k0_pay51 ws)

/-- The block of `y` a point stores: the scaled products rounded to bfloat16. -/
def yBlk (b : FVec F S128x512 .f32) : FVec F S128x512 .bf16 := truncf .bf16 b bitsLt_bf16_f32

/-- The running row maxima after a point: the larger of those found and the block's own rows' largest absolute values. -/
def maxBlk (b : FVec F S128x512 .f32) (m : Vec F S128x1 .f32) : FVec F S128x1 .f32 :=
  shapeCast S128x1 (maximumf m (shapeCast S128x1
    (multiReduction .maximumf [1] S128 (absf b) 0xFF800000#32 reduces_S128x512_S128 (.inl rfl) rfl) shapeCasts_S128_S128x1)) shapeCasts_S128x1_S128x1

/-- The buffer of all blocks with block `n` replaced. -/
def putSlab (d : Vec F S28x128x512 .f32) (n : ℕ) (b : FVec F S128x512 .f32) : Vec F S28x128x512 .f32 :=
  fun y => if (y 0).val = n then b (ix2 (y 1) (y 2)) else d y

/-- Block `k` of the buffer of all blocks, as the three-axis value a load of it gives. -/
def slab (d : Vec F S28x128x512 .f32) (k : Fin 28) : Vec F S1x128x512 .f32 := fun x => d (ix3 k (x 1) (x 2))

/-- The codes of all columns: each block divided by the row scales, rounded, clamped and converted. -/
def quantAll (s : FVec F S128x1 .f32) (d : Vec F S28x128x512 .f32) : IVec S128x14336 8 :=
  fun y => k0_pay12 s (slab d ⟨(y 1).val / 512, by have := (y 1).isLt; have : (y 1).val < 14336 := this; omega⟩)
    (ix2 (y 0) (⟨(y 1).val % 512, Nat.mod_lt _ (by decide)⟩ : Fin 512))

/-! ## Reading these back through a view -/

/-- A load through a whole memref held at the contents that read `X` is the part of `X` at the load's rectangle. -/
theorem readAt_unread_ld {s : Shape} {e : EltTy} {m : Memref sig .tc .vmem s e} (h : m.IsWhole) (X : s.Idx → Elt F e) (r : Rect s) :
    View.readAt (Elt F) m.view r.toLoadRect (h.unread X) = View.ld X r :=
  funext fun x => congrFun (h.read_unread X) _

/-- A load of the whole memref held at the contents that read `X` is `X`. -/
theorem readAt_unread_full {s : Shape} {e : EltTy} {m : Memref sig .tc .vmem s e} (h : m.IsWhole) (X : s.Idx → Elt F e)
    {off : Fin s.rank → ℕ} (inb : ∀ a, off a + s.size a ≤ s.size a) :
    View.readAt (Elt F) m.view (Rect.unit off s.size inb).toLoadRect (h.unread X) = X :=
  (View.readAt_full _ _ inb).trans (h.read_unread X)

/-- A load after a store over the whole memref reads the stored value's part at the load's rectangle. -/
theorem readCov_full_ld {s : Shape} {e : EltTy} (v : View sig .tc .vmem s e) {off : Fin s.rank → ℕ} (inb : ∀ a, off a + s.size a ≤ s.size a)
    (w : s.Idx → Elt F e) (L : List (View.Piece (Elt F) s e)) (r : Rect s) :
    v.readCov (⟨Rect.unit off s.size inb, w⟩ :: L) r.toLoadRect = View.ld w r :=
  funext fun x => congrFun (View.read_writes_full v _ inb w L) _

/-- A load of the whole memref after a store over it reads the stored value. -/
theorem readCov_full {s : Shape} {e : EltTy} (v : View sig .tc .vmem s e) {off off' : Fin s.rank → ℕ} (inb : ∀ a, off a + s.size a ≤ s.size a)
    (inb' : ∀ a, off' a + s.size a ≤ s.size a) (w : s.Idx → Elt F e) (L : List (View.Piece (Elt F) s e)) :
    v.readCov (⟨Rect.unit off s.size inb, w⟩ :: L) (Rect.unit off' s.size inb').toLoadRect = w :=
  (View.readAt_full _ _ inb').trans (View.read_writes_full v _ inb w L)

/-- Storing a point's block of scaled products into the buffer of all blocks replaces that block. -/
theorem read_putSlab (i : grid0.Coords) {m : Memref sig .tc .vmem S28x128x512 .f32} (h : m.IsWhole) (d : Vec F S28x128x512 .f32)
    (b : FVec F S128x512 .f32) (w : FVec F S1x128x512 .f32) (hw : w = shapeCast S1x128x512 b shapeCasts_S128x512_S1x128x512) :
    m.view.read (Elt F) (m.view.writes (Elt F) (h.unread d) [⟨Rect.unit (s := S28x128x512) (k0_off1 i) S1x128x512.size (k0_off1_inb i), w⟩])
      = putSlab d (i 0).val b := by
  rw [View.read_writes_cons_put _ _ _ _ _ (k0_off1_eq i), View.writes_nil, h.read_unread]
  subst hw
  funext y
  unfold VecWindow.put putSlab
  have h1 := (y 1).isLt
  have h2 := (y 2).isLt
  by_cases hy : (y 0).val = (i 0).val
  · rw [if_pos hy, dif_pos]
    · refine (shapeCast_addUnit_apply ![128, 512] b _ _).trans (congrArg b (funext fun a => Fin.ext ?_))
      fin_cases a
      · exact Nat.sub_zero _
      · exact Nat.sub_zero _
    · intro a
      fin_cases a
      · exact ⟨hy.ge, (Nat.lt_succ_of_le hy.le : (y 0).val < (i 0).val + 1)⟩
      · exact ⟨Nat.zero_le _, by simpa using h1⟩
      · exact ⟨Nat.zero_le _, by simpa using h2⟩
  · rw [if_neg hy, dif_neg]
    intro hall
    have := hall 0
    simp at this
    omega

/-- A load of block `k` of the buffer of all blocks. -/
theorem ld_slab (d : Vec F S28x128x512 .f32) (k : Fin 28) {off : Fin 3 → ℕ} (hoff : off = ![k.val, 0, 0])
    (inb : ∀ a, off a + S1x128x512.size a ≤ S28x128x512.size a) :
    View.ld d (Rect.unit (s := S28x128x512) off S1x128x512.size inb) = slab d k := by
  subst hoff
  funext x
  refine congrArg d (funext fun a => Fin.ext ?_)
  have hx : (x 0).val = 0 := Nat.lt_one_iff.mp (x 0).isLt
  fin_cases a
  · show k.val + 1 * (x 0).val = k.val
    omega
  · show 0 + 1 * (x 1).val = (x 1).val
    omega
  · show 0 + 1 * (x 2).val = (x 2).val
    omega

/-- A load of block `k` of the buffer of all blocks through a view that reads it. -/
theorem readAt_slab (v : View sig .tc .vmem S28x128x512 .f32) (f : v.ty.Contents (Elt F)) (d : Vec F S28x128x512 .f32) (h : v.read (Elt F) f = d)
    (k : Fin 28) {off : Fin 3 → ℕ} (hoff : off = ![k.val, 0, 0]) (inb : ∀ a, off a + S1x128x512.size a ≤ S28x128x512.size a) :
    View.readAt (Elt F) v (Rect.unit (s := S28x128x512) off S1x128x512.size inb).toLoadRect f = slab d k :=
  (congrArg (fun d' => View.ld d' (Rect.unit (s := S28x128x512) off S1x128x512.size inb)) h).trans (ld_slab d k hoff inb)

/-- The codes of all columns at a column block: that block's codes. -/
theorem quantAll_emb (s : FVec F S128x1 .f32) (d : Vec F S28x128x512 .f32) (k : Fin 28) {off : Fin 2 → ℕ} (hoff : off = ![0, 512 * k.val])
    (inb : ∀ a, off a + S128x512.size a ≤ S128x14336.size a) (x : S128x512.Idx) :
    k0_pay12 s (slab d k) x = quantAll s d ((Rect.unit (s := S128x14336) off S128x512.size inb).emb x) := by
  subst hoff
  have h1 : (x 1).val < 512 := (x 1).isLt
  unfold quantAll
  have e0 : (((Rect.unit (s := S128x14336) ![0, 512 * k.val] S128x512.size inb).emb x) 0).val = (x 0).val := by
    show 0 + 1 * (x 0).val = _
    omega
  have e1 : (((Rect.unit (s := S128x14336) ![0, 512 * k.val] S128x512.size inb).emb x) 1).val = 512 * k.val + (x 1).val := by
    show 512 * k.val + 1 * (x 1).val = _
    omega
  congr 1
  · congr 1
    congr 1
    refine Fin.ext ?_
    show k.val = _ / 512
    rw [e1]; omega
  · funext a
    refine Fin.ext ?_
    fin_cases a
    · exact e0.symm
    · show (x 1).val = _ % 512
      rw [e1]; omega

end Cert.Kernel.Body

end
-- ==== Proof.BitsRunA.lean ====
/- The body's run at the first grid point. The kernel as printed, whose floats are words; its ideal form's text is the same. -/
module

public import proofs.«01_k».proof.Proof.BitsContents

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- At the first point the body also quantises the activations: it stores their codes and scales, keeps the codes as bfloat16
    and the scales as a column in its scratch buffers, and starts the running row maxima at zero. -/
theorem runA (c : Dev nD) (i : grid0.Coords) (arg1 : Memref sig .tc .vmem S128x4096 .bf16) (harg1 : arg1.IsWhole) (arg2 : Memref sig .tc .vmem S4096x512 .i8) (harg2 : arg2.IsWhole) (arg3 : Memref sig .tc .vmem S1x512 .f32) (harg3 : arg3.IsWhole) (arg4 : Memref sig .tc .vmem S128x512 .bf16) (harg4 : arg4.IsWhole) (arg5 : Memref sig .tc .vmem S128x4096 .i8) (harg5 : arg5.IsWhole) (arg6 : Memref sig .tc .vmem S1x128 .f32) (harg6 : arg6.IsWhole) (arg7 : Memref sig .tc .vmem S128x14336 .i8) (harg7 : arg7.IsWhole) (arg8 : Memref sig .tc .vmem S1x128 .f32) (harg8 : arg8.IsWhole) (arg9 : Memref sig .tc .vmem S128x4096 .bf16) (harg9 : arg9.IsWhole) (arg10 : Memref sig .tc .vmem S128x1 .f32) (harg10 : arg10.IsWhole) (arg11 : Memref sig .tc .vmem S28x128x512 .f32) (harg11 : arg11.IsWhole) (arg12 : Memref sig .tc .vmem S128x1 .f32) (harg12 : arg12.IsWhole) (hc0 : cond0_0 i) (hc1 : ¬cond0_1 i)
    (x0 : Vec F S128x4096 .bf16) (x1 : Vec F S4096x512 .i8) (x2 : Vec F S1x512 .f32) (x4 : Vec F S128x4096 .i8) (x5 : Vec F S1x128 .f32) (x6 : Vec F S128x14336 .i8) (x7 : Vec F S1x128 .f32)
    (xs0 : Vec F S128x4096 .bf16) (xs1 : Vec F S128x1 .f32) (xs2 : Vec F S28x128x512 .f32) (xs3 : Vec F S128x1 .f32) (E : Set ℕ) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare (yBlk (yfBlk (k0_pay46 x0) x1 (k0_pay47 x0) x2)) ∗ owns (c : Thread nD τ) arg5 fullShare (k0_pay45 x0) ∗ owns (c : Thread nD τ) arg6 fullShare (k0_pay48 x0) ∗ owns (c : Thread nD τ) arg7 fullShare x6 ∗ owns (c : Thread nD τ) arg8 fullShare x7 ∗ owns (c : Thread nD τ) arg9 fullShare (k0_pay46 x0) ∗ owns (c : Thread nD τ) arg10 fullShare (k0_pay47 x0) ∗ owns (c : Thread nD τ) arg11 fullShare (putSlab xs2 (i 0).val (yfBlk (k0_pay46 x0) x1 (k0_pay47 x0) x2)) ∗ owns (c : Thread nD τ) arg12 fullShare (maxBlk (yfBlk (k0_pay46 x0) x1 (k0_pay47 x0) x2) (k0_pay49 (F := F)))) -∗ K ⟨⟩))
          ⊢ wp frame (wpE (defs₀ (F := F)) Variants.none c none) E (cc0_w8a8_linear_requant i arg1 harg1 arg2 harg2 arg3 harg3 arg4 harg4 arg5 harg5 arg6 harg6 arg7 harg7 arg8 harg8 arg9 harg9 arg10 harg10 arg11 harg11 arg12 harg12) K := by
    simp only [cc0_w8a8_linear_requant_eq_skeleton]; unfold cc0_w8a8_linear_requant_skel
    simp only [k0_part10_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, H6, H7, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg9.eq_unread hfs0; obtain rfl := harg10.eq_unread hfs1; obtain rfl := harg11.eq_unread hfs2; obtain rfl := harg12.eq_unread hfs3
    sl_exec (disch := first | sl_exact hc0 | sl_exact hc1)
    sl_step
    iapply Hk
    have e0 : View.readAt (Elt F) arg1.view (Rect.unit (s := S128x4096) ![0, 0] S128x4096.size inb_S128x4096_S128x4096_0_0).toLoadRect (harg1.unread x0) = x0 :=
      readAt_unread_full harg1 x0 inb_S128x4096_S128x4096_0_0
    have eS0 : runA.sl.HS0_1 c arg1 harg1 x0 = [⟨Rect.unit (s := S128x4096) ![0, 0] S128x4096.size inb_S128x4096_S128x4096_0_0, k0_pay46 x0⟩] := by
      unfold runA.sl.HS0_1; rw [e0]
    have eS1 : runA.sl.HS1_1 c arg1 harg1 x0 = [⟨Rect.unit (s := S128x1) ![0, 0] S128x1.size inb_S128x1_S128x1_0_0, k0_pay47 x0⟩] := by
      unfold runA.sl.HS1_1; rw [e0]
    have em : runA.sl.v40 (F := F) c arg12 = k0_pay49 := by
      unfold runA.sl.v40 runA.sl.HS3_1
      exact readCov_full _ _ _ _ _
    have eyf : k0_pay1 (runA.sl.r c arg1 harg1 arg2 harg2 arg9 arg10 x0 x1) (runA.sl.r_1 c arg3 harg3 x2) = yfBlk (k0_pay46 x0) x1 (k0_pay47 x0) x2 := by
      unfold runA.sl.r runA.sl.r_1 yfBlk runA.sl.v3 runA.sl.v8 runA.sl.v14 runA.sl.v20 runA.sl.v27
      have l1 := readCov_full arg10.view inb_S128x1_S128x1_0_0 inb_S128x1_S128x1_0_0 (k0_pay47 x0) []
      have l2 := readAt_unread_full harg3 x2 inb_S1x512_S1x512_0_0
      rw [eS0, eS1, l1, l2]
      rw [readCov_full_ld arg9.view inb_S128x4096_S128x4096_0_0 (k0_pay46 x0) [] (Rect.unit (s := S128x4096) ![0, 0] S128x1024.size inb_S128x4096_S128x1024_0_0), readAt_unread_ld harg2 x1 (Rect.unit (s := S4096x512) ![0, 0] S1024x512.size inb_S4096x512_S1024x512_0_0)]
      rw [readCov_full_ld arg9.view inb_S128x4096_S128x4096_0_0 (k0_pay46 x0) [] (Rect.unit (s := S128x4096) ![0, 1024] S128x1024.size inb_S128x4096_S128x1024_0_1024), readAt_unread_ld harg2 x1 (Rect.unit (s := S4096x512) ![1024, 0] S1024x512.size inb_S4096x512_S1024x512_1024_0)]
      rw [readCov_full_ld arg9.view inb_S128x4096_S128x4096_0_0 (k0_pay46 x0) [] (Rect.unit (s := S128x4096) ![0, 2048] S128x1024.size inb_S128x4096_S128x1024_0_2048), readAt_unread_ld harg2 x1 (Rect.unit (s := S4096x512) ![2048, 0] S1024x512.size inb_S4096x512_S1024x512_2048_0)]
      rw [readCov_full_ld arg9.view inb_S128x4096_S128x4096_0_0 (k0_pay46 x0) [] (Rect.unit (s := S128x4096) ![0, 3072] S128x1024.size inb_S128x4096_S128x1024_0_3072), readAt_unread_ld harg2 x1 (Rect.unit (s := S4096x512) ![3072, 0] S1024x512.size inb_S4096x512_S1024x512_3072_0)]
    isplitl [H0]
    · iexists _; isplitr; swap; · iexact H0
      ipureintro
      exact harg1.read_unread _
    isplitl [H1]
    · iexists _; isplitr; swap; · iexact H1
      ipureintro
      exact harg2.read_unread _
    isplitl [H2]
    · iexists _; isplitr; swap; · iexact H2
      ipureintro
      exact harg3.read_unread _
    isplitl [H3]
    · iexists _; isplitr; swap; · iexact H3
      ipureintro
      exact (View.read_writes_full _ _ _ _ _).trans (congrArg yBlk eyf)
    isplitl [H4]
    · iexists _; isplitr; swap; · iexact H4
      ipureintro
      exact (View.read_writes_full _ _ _ _ _).trans (congrArg k0_pay45 e0)
    isplitl [H5]
    · iexists _; isplitr; swap; · iexact H5
      ipureintro
      exact (View.read_writes_full _ _ _ _ _).trans (congrArg k0_pay48 e0)
    isplitl [H6]
    · iexact H6
    isplitl [H7]
    · iexact H7
    isplitl [HS0]
    · iexists _; isplitr; swap; · iexact HS0
      ipureintro
      rw [eS0]; exact View.read_writes_full _ _ _ _ _
    isplitl [HS1]
    · iexists _; isplitr; swap; · iexact HS1
      ipureintro
      rw [eS1]; exact View.read_writes_full _ _ _ _ _
    isplitl [HS2]
    · iexists _; isplitr; swap; · iexact HS2
      ipureintro
      exact read_putSlab i harg11 xs2 _ _ (congrArg (fun b => shapeCast S1x128x512 b shapeCasts_S128x512_S1x128x512) eyf)
    iexists _; isplitr; swap; · iexact HS3
    ipureintro
    exact (View.read_writes_full _ _ _ _ _).trans (congrArg₂ maxBlk eyf em)

end Cert.Kernel.Body

end
-- ==== Proof.BitsRunB.lean ====
/- The body's run at a middle grid point. The kernel as printed, whose floats are words; its ideal form's text is the same. -/
module

public import proofs.«01_k».proof.Proof.BitsContents
public import proofs.«01_k».proof.Proof.BitsRunA

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- At a middle point the body stores the point's block of `y`, puts the block of scaled products into the buffer of all
    blocks and raises the running row maxima; it leaves everything else as found. -/
theorem runB (c : Dev nD) (i : grid0.Coords) (arg1 : Memref sig .tc .vmem S128x4096 .bf16) (harg1 : arg1.IsWhole) (arg2 : Memref sig .tc .vmem S4096x512 .i8) (harg2 : arg2.IsWhole) (arg3 : Memref sig .tc .vmem S1x512 .f32) (harg3 : arg3.IsWhole) (arg4 : Memref sig .tc .vmem S128x512 .bf16) (harg4 : arg4.IsWhole) (arg5 : Memref sig .tc .vmem S128x4096 .i8) (harg5 : arg5.IsWhole) (arg6 : Memref sig .tc .vmem S1x128 .f32) (harg6 : arg6.IsWhole) (arg7 : Memref sig .tc .vmem S128x14336 .i8) (harg7 : arg7.IsWhole) (arg8 : Memref sig .tc .vmem S1x128 .f32) (harg8 : arg8.IsWhole) (arg9 : Memref sig .tc .vmem S128x4096 .bf16) (harg9 : arg9.IsWhole) (arg10 : Memref sig .tc .vmem S128x1 .f32) (harg10 : arg10.IsWhole) (arg11 : Memref sig .tc .vmem S28x128x512 .f32) (harg11 : arg11.IsWhole) (arg12 : Memref sig .tc .vmem S128x1 .f32) (harg12 : arg12.IsWhole) (hc0 : ¬cond0_0 i) (hc1 : ¬cond0_1 i)
    (x0 : Vec F S128x4096 .bf16) (x1 : Vec F S4096x512 .i8) (x2 : Vec F S1x512 .f32) (x4 : Vec F S128x4096 .i8) (x5 : Vec F S1x128 .f32) (x6 : Vec F S128x14336 .i8) (x7 : Vec F S1x128 .f32)
    (xs0 : Vec F S128x4096 .bf16) (xs1 : Vec F S128x1 .f32) (xs2 : Vec F S28x128x512 .f32) (xs3 : Vec F S128x1 .f32) (E : Set ℕ) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare (yBlk (yfBlk xs0 x1 xs1 x2)) ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xs0 ∗ owns (c : Thread nD τ) arg10 fullShare xs1 ∗ owns (c : Thread nD τ) arg11 fullShare (putSlab xs2 (i 0).val (yfBlk xs0 x1 xs1 x2)) ∗ owns (c : Thread nD τ) arg12 fullShare (maxBlk (yfBlk xs0 x1 xs1 x2) xs3)) -∗ K ⟨⟩))
          ⊢ wp frame (wpE (defs₀ (F := F)) Variants.none c none) E (cc0_w8a8_linear_requant i arg1 harg1 arg2 harg2 arg3 harg3 arg4 harg4 arg5 harg5 arg6 harg6 arg7 harg7 arg8 harg8 arg9 harg9 arg10 harg10 arg11 harg11 arg12 harg12) K := by
    simp only [cc0_w8a8_linear_requant_eq_skeleton]; unfold cc0_w8a8_linear_requant_skel
    simp only [k0_part10_eq_skeleton]
    unfold owns
    iintro ⟨⟨%f0, %hf0, H0⟩, ⟨%f1, %hf1, H1⟩, ⟨%f2, %hf2, H2⟩, ⟨%d3, %f3, -, H3⟩, H4, H5, H6, H7, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg9.eq_unread hfs0; obtain rfl := harg10.eq_unread hfs1; obtain rfl := harg11.eq_unread hfs2; obtain rfl := harg12.eq_unread hfs3
    sl_exec (disch := first | sl_exact hc0 | sl_exact hc1)
    sl_step
    iapply Hk
    have eyf : k0_pay1 (runB.sl.r c arg2 harg2 arg9 harg9 arg10 harg10 x1 xs0 xs1) (runB.sl.r_1 c arg3 harg3 x2) = yfBlk xs0 x1 xs1 x2 := by
      unfold runB.sl.r runB.sl.r_1 yfBlk
      have l1 := readAt_unread_full harg10 xs1 inb_S128x1_S128x1_0_0
      have l2 := readAt_unread_full harg3 x2 inb_S1x512_S1x512_0_0
      rw [l1, l2]
      rw [readAt_unread_ld harg9 xs0 (Rect.unit (s := S128x4096) ![0, 0] S128x1024.size inb_S128x4096_S128x1024_0_0), readAt_unread_ld harg2 x1 (Rect.unit (s := S4096x512) ![0, 0] S1024x512.size inb_S4096x512_S1024x512_0_0)]
      rw [readAt_unread_ld harg9 xs0 (Rect.unit (s := S128x4096) ![0, 1024] S128x1024.size inb_S128x4096_S128x1024_0_1024), readAt_unread_ld harg2 x1 (Rect.unit (s := S4096x512) ![1024, 0] S1024x512.size inb_S4096x512_S1024x512_1024_0)]
      rw [readAt_unread_ld harg9 xs0 (Rect.unit (s := S128x4096) ![0, 2048] S128x1024.size inb_S128x4096_S128x1024_0_2048), readAt_unread_ld harg2 x1 (Rect.unit (s := S4096x512) ![2048, 0] S1024x512.size inb_S4096x512_S1024x512_2048_0)]
      rw [readAt_unread_ld harg9 xs0 (Rect.unit (s := S128x4096) ![0, 3072] S128x1024.size inb_S128x4096_S128x1024_0_3072), readAt_unread_ld harg2 x1 (Rect.unit (s := S4096x512) ![3072, 0] S1024x512.size inb_S4096x512_S1024x512_3072_0)]
    isplitl [H0]
    · iexists _; isplitr; swap; · iexact H0
      ipureintro
      exact harg1.read_unread _
    isplitl [H1]
    · iexists _; isplitr; swap; · iexact H1
      ipureintro
      exact harg2.read_unread _
    isplitl [H2]
    · iexists _; isplitr; swap; · iexact H2
      ipureintro
      exact harg3.read_unread _
    isplitl [H3]
    · iexists _; isplitr; swap; · iexact H3
      ipureintro
      exact (View.read_writes_full _ _ _ _ _).trans (congrArg yBlk eyf)
    isplitl [H4]
    · iexact H4
    isplitl [H5]
    · iexact H5
    isplitl [H6]
    · iexact H6
    isplitl [H7]
    · iexact H7
    isplitl [HS0]
    · iexists _; isplitr; swap; · iexact HS0
      ipureintro
      exact harg9.read_unread _
    isplitl [HS1]
    · iexists _; isplitr; swap; · iexact HS1
      ipureintro
      exact harg10.read_unread _
    isplitl [HS2]
    · iexists _; isplitr; swap; · iexact HS2
      ipureintro
      exact read_putSlab i harg11 xs2 _ _ (congrArg (fun b => shapeCast S1x128x512 b shapeCasts_S128x512_S1x128x512) eyf)
    iexists _; isplitr; swap; · iexact HS3
    ipureintro
    exact (View.read_writes_full _ _ _ _ _).trans (congrArg₂ maxBlk eyf (readAt_unread_full harg12 xs3 inb_S128x1_S128x1_0_0))

end Cert.Kernel.Body

end
-- ==== Proof.BitsRunC.lean ====
/- The body's run at the last grid point. The kernel as printed, whose floats are words; its ideal form's text is the same. -/
module

public import proofs.«01_k».proof.Proof.BitsRunB

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 8000000 in
/-- At the last point the body also stores the codes of all columns, made with the scales of the finished row maxima, and those
    scales. -/
theorem runC (c : Dev nD) (i : grid0.Coords) (arg1 : Memref sig .tc .vmem S128x4096 .bf16) (harg1 : arg1.IsWhole) (arg2 : Memref sig .tc .vmem S4096x512 .i8) (harg2 : arg2.IsWhole) (arg3 : Memref sig .tc .vmem S1x512 .f32) (harg3 : arg3.IsWhole) (arg4 : Memref sig .tc .vmem S128x512 .bf16) (harg4 : arg4.IsWhole) (arg5 : Memref sig .tc .vmem S128x4096 .i8) (harg5 : arg5.IsWhole) (arg6 : Memref sig .tc .vmem S1x128 .f32) (harg6 : arg6.IsWhole) (arg7 : Memref sig .tc .vmem S128x14336 .i8) (harg7 : arg7.IsWhole) (arg8 : Memref sig .tc .vmem S1x128 .f32) (harg8 : arg8.IsWhole) (arg9 : Memref sig .tc .vmem S128x4096 .bf16) (harg9 : arg9.IsWhole) (arg10 : Memref sig .tc .vmem S128x1 .f32) (harg10 : arg10.IsWhole) (arg11 : Memref sig .tc .vmem S28x128x512 .f32) (harg11 : arg11.IsWhole) (arg12 : Memref sig .tc .vmem S128x1 .f32) (harg12 : arg12.IsWhole) (hc0 : ¬cond0_0 i) (hc1 : cond0_1 i)
    (x0 : Vec F S128x4096 .bf16) (x1 : Vec F S4096x512 .i8) (x2 : Vec F S1x512 .f32) (x4 : Vec F S128x4096 .i8) (x5 : Vec F S1x128 .f32) (x6 : Vec F S128x14336 .i8) (x7 : Vec F S1x128 .f32)
    (xs0 : Vec F S128x4096 .bf16) (xs1 : Vec F S128x1 .f32) (xs2 : Vec F S28x128x512 .f32) (xs3 : Vec F S128x1 .f32) (E : Set ℕ) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare (yBlk (yfBlk xs0 x1 xs1 x2)) ∗ owns (c : Thread nD τ) arg5 fullShare x4 ∗ owns (c : Thread nD τ) arg6 fullShare x5 ∗ owns (c : Thread nD τ) arg7 fullShare (quantAll (k0_pay6 (maxBlk (yfBlk xs0 x1 xs1 x2) xs3)) (putSlab xs2 (i 0).val (yfBlk xs0 x1 xs1 x2))) ∗ owns (c : Thread nD τ) arg8 fullShare (k0_pay7 (maxBlk (yfBlk xs0 x1 xs1 x2) xs3)) ∗ owns (c : Thread nD τ) arg9 fullShare xs0 ∗ owns (c : Thread nD τ) arg10 fullShare xs1 ∗ owns (c : Thread nD τ) arg11 fullShare (putSlab xs2 (i 0).val (yfBlk xs0 x1 xs1 x2)) ∗ owns (c : Thread nD τ) arg12 fullShare (maxBlk (yfBlk xs0 x1 xs1 x2) xs3)) -∗ K ⟨⟩))
          ⊢ wp frame (wpE (defs₀ (F := F)) Variants.none c none) E (cc0_w8a8_linear_requant i arg1 harg1 arg2 harg2 arg3 harg3 arg4 harg4 arg5 harg5 arg6 harg6 arg7 harg7 arg8 harg8 arg9 harg9 arg10 harg10 arg11 harg11 arg12 harg12) K := by
    simp only [cc0_w8a8_linear_requant_eq_skeleton]; unfold cc0_w8a8_linear_requant_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%d3, %f3, -, H3⟩, H4, H5, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg9.eq_unread hfs0; obtain rfl := harg10.eq_unread hfs1; obtain rfl := harg11.eq_unread hfs2; obtain rfl := harg12.eq_unread hfs3
    sl_exec (disch := first | sl_exact hc0 | sl_exact hc1)
    sl_step
    iapply Hk
    have eyf : k0_pay1 (runC.sl.r c arg2 harg2 arg9 harg9 arg10 harg10 x1 xs0 xs1) (runC.sl.r_1 c arg3 harg3 x2) = yfBlk xs0 x1 xs1 x2 := by
      unfold runC.sl.r runC.sl.r_1 yfBlk
      have l1 := readAt_unread_full harg10 xs1 inb_S128x1_S128x1_0_0
      have l2 := readAt_unread_full harg3 x2 inb_S1x512_S1x512_0_0
      rw [l1, l2]
      rw [readAt_unread_ld harg9 xs0 (Rect.unit (s := S128x4096) ![0, 0] S128x1024.size inb_S128x4096_S128x1024_0_0), readAt_unread_ld harg2 x1 (Rect.unit (s := S4096x512) ![0, 0] S1024x512.size inb_S4096x512_S1024x512_0_0)]
      rw [readAt_unread_ld harg9 xs0 (Rect.unit (s := S128x4096) ![0, 1024] S128x1024.size inb_S128x4096_S128x1024_0_1024), readAt_unread_ld harg2 x1 (Rect.unit (s := S4096x512) ![1024, 0] S1024x512.size inb_S4096x512_S1024x512_1024_0)]
      rw [readAt_unread_ld harg9 xs0 (Rect.unit (s := S128x4096) ![0, 2048] S128x1024.size inb_S128x4096_S128x1024_0_2048), readAt_unread_ld harg2 x1 (Rect.unit (s := S4096x512) ![2048, 0] S1024x512.size inb_S4096x512_S1024x512_2048_0)]
      rw [readAt_unread_ld harg9 xs0 (Rect.unit (s := S128x4096) ![0, 3072] S128x1024.size inb_S128x4096_S128x1024_0_3072), readAt_unread_ld harg2 x1 (Rect.unit (s := S4096x512) ![3072, 0] S1024x512.size inb_S4096x512_S1024x512_3072_0)]
    have e51 : runC.sl.v51 c arg2 harg2 arg3 harg3 arg9 harg9 arg10 harg10 arg12 harg12 x1 x2 xs0 xs1 xs3 = maxBlk (yfBlk xs0 x1 xs1 x2) xs3 := by
      unfold runC.sl.v51 runC.sl.HS3_1
      exact (readCov_full _ _ _ _ _).trans (congrArg₂ maxBlk eyf (readAt_unread_full harg12 xs3 inb_S128x1_S128x1_0_0))
    have es : View.read (Elt F) arg11.view (arg11.view.writes (Elt F) (harg11.unread xs2) (runC.sl.HS2_1 c i arg2 harg2 arg3 harg3 arg9 harg9 arg10 harg10 x1 x2 xs0 xs1)) = putSlab xs2 (i 0).val (yfBlk xs0 x1 xs1 x2) := by
      unfold runC.sl.HS2_1
      exact read_putSlab i harg11 xs2 _ _ (congrArg (fun b => shapeCast S1x128x512 b shapeCasts_S128x512_S1x128x512) eyf)
    have s0 : runC.sl.v60 c i arg2 harg2 arg3 harg3 arg9 harg9 arg10 harg10 arg11 harg11 x1 x2 xs0 xs1 xs2 = slab (putSlab xs2 (i 0).val (yfBlk xs0 x1 xs1 x2)) ⟨0, by decide⟩ := by
      unfold runC.sl.v60; exact readAt_slab _ _ _ es ⟨0, by decide⟩ rfl _
    have s1 : runC.sl.v71 c i arg2 harg2 arg3 harg3 arg9 harg9 arg10 harg10 arg11 harg11 x1 x2 xs0 xs1 xs2 = slab (putSlab xs2 (i 0).val (yfBlk xs0 x1 xs1 x2)) ⟨1, by decide⟩ := by
      unfold runC.sl.v71; exact readAt_slab _ _ _ es ⟨1, by decide⟩ rfl _
    have s2 : runC.sl.v82 c i arg2 harg2 arg3 harg3 arg9 harg9 arg10 harg10 arg11 harg11 x1 x2 xs0 xs1 xs2 = slab (putSlab xs2 (i 0).val (yfBlk xs0 x1 xs1 x2)) ⟨2, by decide⟩ := by
      unfold runC.sl.v82; exact readAt_slab _ _ _ es ⟨2, by decide⟩ rfl _
    have s3 : runC.sl.v93 c i arg2 harg2 arg3 harg3 arg9 harg9 arg10 harg10 arg11 harg11 x1 x2 xs0 xs1 xs2 = slab (putSlab xs2 (i 0).val (yfBlk xs0 x1 xs1 x2)) ⟨3, by decide⟩ := by
      unfold runC.sl.v93; exact readAt_slab _ _ _ es ⟨3, by decide⟩ rfl _
    have s4 : runC.sl.v104 c i arg2 harg2 arg3 harg3 arg9 harg9 arg10 harg10 arg11 harg11 x1 x2 xs0 xs1 xs2 = slab (putSlab xs2 (i 0).val (yfBlk xs0 x1 xs1 x2)) ⟨4, by decide⟩ := by
      unfold runC.sl.v104; exact readAt_slab _ _ _ es ⟨4, by decide⟩ rfl _
    have s5 : runC.sl.v115 c i arg2 harg2 arg3 harg3 arg9 harg9 arg10 harg10 arg11 harg11 x1 x2 xs0 xs1 xs2 = slab (putSlab xs2 (i 0).val (yfBlk xs0 x1 xs1 x2)) ⟨5, by decide⟩ := by
      unfold runC.sl.v115; exact readAt_slab _ _ _ es ⟨5, by decide⟩ rfl _
    have s6 : runC.sl.v126 c i arg2 harg2 arg3 harg3 arg9 harg9 arg10 harg10 arg11 harg11 x1 x2 xs0 xs1 xs2 = slab (putSlab xs2 (i 0).val (yfBlk xs0 x1 xs1 x2)) ⟨6, by decide⟩ := by
      unfold runC.sl.v126; exact readAt_slab _ _ _ es ⟨6, by decide⟩ rfl _
    have s7 : runC.sl.v137 c i arg2 harg2 arg3 harg3 arg9 harg9 arg10 harg10 arg11 harg11 x1 x2 xs0 xs1 xs2 = slab (putSlab xs2 (i 0).val (yfBlk xs0 x1 xs1 x2)) ⟨7, by decide⟩ := by
      unfold runC.sl.v137; exact readAt_slab _ _ _ es ⟨7, by decide⟩ rfl _
    have s8 : runC.sl.v148 c i arg2 harg2 arg3 harg3 arg9 harg9 arg10 harg10 arg11 harg11 x1 x2 xs0 xs1 xs2 = slab (putSlab xs2 (i 0).val (yfBlk xs0 x1 xs1 x2)) ⟨8, by decide⟩ := by
      unfold runC.sl.v148; exact readAt_slab _ _ _ es ⟨8, by decide⟩ rfl _
    have s9 : runC.sl.v159 c i arg2 harg2 arg3 harg3 arg9 harg9 arg10 harg10 arg11 harg11 x1 x2 xs0 xs1 xs2 = slab (putSlab xs2 (i 0).val (yfBlk xs0 x1 xs1 x2)) ⟨9, by decide⟩ := by
      unfold runC.sl.v159; exact readAt_slab _ _ _ es ⟨9, by decide⟩ rfl _
    have s10 : runC.sl.v170 c i arg2 harg2 arg3 harg3 arg9 harg9 arg10 harg10 arg11 harg11 x1 x2 xs0 xs1 xs2 = slab (putSlab xs2 (i 0).val (yfBlk xs0 x1 xs1 x2)) ⟨10, by decide⟩ := by
      unfold runC.sl.v170; exact readAt_slab _ _ _ es ⟨10, by decide⟩ rfl _
    have s11 : runC.sl.v181 c i arg2 harg2 arg3 harg3 arg9 harg9 arg10 harg10 arg11 harg11 x1 x2 xs0 xs1 xs2 = slab (putSlab xs2 (i 0).val (yfBlk xs0 x1 xs1 x2)) ⟨11, by decide⟩ := by
      unfold runC.sl.v181; exact readAt_slab _ _ _ es ⟨11, by decide⟩ rfl _
    have s12 : runC.sl.v192 c i arg2 harg2 arg3 harg3 arg9 harg9 arg10 harg10 arg11 harg11 x1 x2 xs0 xs1 xs2 = slab (putSlab xs2 (i 0).val (yfBlk xs0 x1 xs1 x2)) ⟨12, by decide⟩ := by
      unfold runC.sl.v192; exact readAt_slab _ _ _ es ⟨12, by decide⟩ rfl _
    have s13 : runC.sl.v203 c i arg2 harg2 arg3 harg3 arg9 harg9 arg10 harg10 arg11 harg11 x1 x2 xs0 xs1 xs2 = slab (putSlab xs2 (i 0).val (yfBlk xs0 x1 xs1 x2)) ⟨13, by decide⟩ := by
      unfold runC.sl.v203; exact readAt_slab _ _ _ es ⟨13, by decide⟩ rfl _
    have s14 : runC.sl.v214 c i arg2 harg2 arg3 harg3 arg9 harg9 arg10 harg10 arg11 harg11 x1 x2 xs0 xs1 xs2 = slab (putSlab xs2 (i 0).val (yfBlk xs0 x1 xs1 x2)) ⟨14, by decide⟩ := by
      unfold runC.sl.v214; exact readAt_slab _ _ _ es ⟨14, by decide⟩ rfl _
    have s15 : runC.sl.v225 c i arg2 harg2 arg3 harg3 arg9 harg9 arg10 harg10 arg11 harg11 x1 x2 xs0 xs1 xs2 = slab (putSlab xs2 (i 0).val (yfBlk xs0 x1 xs1 x2)) ⟨15, by decide⟩ := by
      unfold runC.sl.v225; exact readAt_slab _ _ _ es ⟨15, by decide⟩ rfl _
    have s16 : runC.sl.v236 c i arg2 harg2 arg3 harg3 arg9 harg9 arg10 harg10 arg11 harg11 x1 x2 xs0 xs1 xs2 = slab (putSlab xs2 (i 0).val (yfBlk xs0 x1 xs1 x2)) ⟨16, by decide⟩ := by
      unfold runC.sl.v236; exact readAt_slab _ _ _ es ⟨16, by decide⟩ rfl _
    have s17 : runC.sl.v247 c i arg2 harg2 arg3 harg3 arg9 harg9 arg10 harg10 arg11 harg11 x1 x2 xs0 xs1 xs2 = slab (putSlab xs2 (i 0).val (yfBlk xs0 x1 xs1 x2)) ⟨17, by decide⟩ := by
      unfold runC.sl.v247; exact readAt_slab _ _ _ es ⟨17, by decide⟩ rfl _
    have s18 : runC.sl.v258 c i arg2 harg2 arg3 harg3 arg9 harg9 arg10 harg10 arg11 harg11 x1 x2 xs0 xs1 xs2 = slab (putSlab xs2 (i 0).val (yfBlk xs0 x1 xs1 x2)) ⟨18, by decide⟩ := by
      unfold runC.sl.v258; exact readAt_slab _ _ _ es ⟨18, by decide⟩ rfl _
    have s19 : runC.sl.v269 c i arg2 harg2 arg3 harg3 arg9 harg9 arg10 harg10 arg11 harg11 x1 x2 xs0 xs1 xs2 = slab (putSlab xs2 (i 0).val (yfBlk xs0 x1 xs1 x2)) ⟨19, by decide⟩ := by
      unfold runC.sl.v269; exact readAt_slab _ _ _ es ⟨19, by decide⟩ rfl _
    have s20 : runC.sl.v280 c i arg2 harg2 arg3 harg3 arg9 harg9 arg10 harg10 arg11 harg11 x1 x2 xs0 xs1 xs2 = slab (putSlab xs2 (i 0).val (yfBlk xs0 x1 xs1 x2)) ⟨20, by decide⟩ := by
      unfold runC.sl.v280; exact readAt_slab _ _ _ es ⟨20, by decide⟩ rfl _
    have s21 : runC.sl.v c i arg2 harg2 arg3 harg3 arg9 harg9 arg10 harg10 arg11 harg11 x1 x2 xs0 xs1 xs2 = slab (putSlab xs2 (i 0).val (yfBlk xs0 x1 xs1 x2)) ⟨21, by decide⟩ := by
      unfold runC.sl.v; exact readAt_slab _ _ _ es ⟨21, by decide⟩ rfl _
    have s22 : runC.sl.v302 c i arg2 harg2 arg3 harg3 arg9 harg9 arg10 harg10 arg11 harg11 x1 x2 xs0 xs1 xs2 = slab (putSlab xs2 (i 0).val (yfBlk xs0 x1 xs1 x2)) ⟨22, by decide⟩ := by
      unfold runC.sl.v302; exact readAt_slab _ _ _ es ⟨22, by decide⟩ rfl _
    have s23 : runC.sl.v313 c i arg2 harg2 arg3 harg3 arg9 harg9 arg10 harg10 arg11 harg11 x1 x2 xs0 xs1 xs2 = slab (putSlab xs2 (i 0).val (yfBlk xs0 x1 xs1 x2)) ⟨23, by decide⟩ := by
      unfold runC.sl.v313; exact readAt_slab _ _ _ es ⟨23, by decide⟩ rfl _
    have s24 : runC.sl.v324 c i arg2 harg2 arg3 harg3 arg9 harg9 arg10 harg10 arg11 harg11 x1 x2 xs0 xs1 xs2 = slab (putSlab xs2 (i 0).val (yfBlk xs0 x1 xs1 x2)) ⟨24, by decide⟩ := by
      unfold runC.sl.v324; exact readAt_slab _ _ _ es ⟨24, by decide⟩ rfl _
    have s25 : runC.sl.v335 c i arg2 harg2 arg3 harg3 arg9 harg9 arg10 harg10 arg11 harg11 x1 x2 xs0 xs1 xs2 = slab (putSlab xs2 (i 0).val (yfBlk xs0 x1 xs1 x2)) ⟨25, by decide⟩ := by
      unfold runC.sl.v335; exact readAt_slab _ _ _ es ⟨25, by decide⟩ rfl _
    have s26 : runC.sl.v346 c i arg2 harg2 arg3 harg3 arg9 harg9 arg10 harg10 arg11 harg11 x1 x2 xs0 xs1 xs2 = slab (putSlab xs2 (i 0).val (yfBlk xs0 x1 xs1 x2)) ⟨26, by decide⟩ := by
      unfold runC.sl.v346; exact readAt_slab _ _ _ es ⟨26, by decide⟩ rfl _
    have s27 : runC.sl.v357 c i arg2 harg2 arg3 harg3 arg9 harg9 arg10 harg10 arg11 harg11 x1 x2 xs0 xs1 xs2 = slab (putSlab xs2 (i 0).val (yfBlk xs0 x1 xs1 x2)) ⟨27, by decide⟩ := by
      unfold runC.sl.v357; exact readAt_slab _ _ _ es ⟨27, by decide⟩ rfl _
    isplitl [H0]
    · iexists _; isplitr; swap; · iexact H0
      ipureintro
      exact harg1.read_unread _
    isplitl [H1]
    · iexists _; isplitr; swap; · iexact H1
      ipureintro
      exact harg2.read_unread _
    isplitl [H2]
    · iexists _; isplitr; swap; · iexact H2
      ipureintro
      exact harg3.read_unread _
    isplitl [H3]
    · iexists _; isplitr; swap; · iexact H3
      ipureintro
      exact (View.read_writes_full _ _ _ _ _).trans (congrArg yBlk eyf)
    isplitl [H4]
    · iexact H4
    isplitl [H5]
    · iexact H5
    isplitl [H6]
    · iexists _; isplitr; swap; · iexact H6
      ipureintro
      unfold runC.sl.r_3 runC.sl.r_4 runC.sl.r_5 runC.sl.r_6 runC.sl.r_7 runC.sl.r_8 runC.sl.r_9 runC.sl.r_2 runC.sl.cst_85 runC.sl.cst_179
      rw [e51, s0, s1, s2, s3, s4, s5, s6, s7, s8, s9, s10, s11, s12, s13, s14, s15, s16, s17, s18, s19, s20, s21, s22, s23, s24, s25, s26, s27]
      refine funext fun y => View.read_writes_apply_of_pieces arg7.view f6 (quantAll (k0_pay6 (maxBlk (yfBlk xs0 x1 xs1 x2) xs3)) (putSlab xs2 (i 0).val (yfBlk xs0 x1 xs1 x2))) _ ?_ y (View.cover_of_tiled (s := S128x14336) _ ![128, 512] (by sl_kernel_rfl) y)
      simp only [List.forall_mem_cons]
      refine ⟨?_, ?_, ?_, ?_, ?_, ?_, ?_, ?_, ?_, ?_, ?_, ?_, ?_, ?_, ?_, ?_, ?_, ?_, ?_, ?_, ?_, ?_, ?_, ?_, ?_, ?_, ?_, ?_, fun p hp => absurd hp List.not_mem_nil⟩
      · exact fun x => quantAll_emb _ _ (⟨27, by decide⟩ : Fin 28) rfl _ x
      · exact fun x => quantAll_emb _ _ (⟨26, by decide⟩ : Fin 28) rfl _ x
      · exact fun x => quantAll_emb _ _ (⟨25, by decide⟩ : Fin 28) rfl _ x
      · exact fun x => quantAll_emb _ _ (⟨24, by decide⟩ : Fin 28) rfl _ x
      · exact fun x => quantAll_emb _ _ (⟨23, by decide⟩ : Fin 28) rfl _ x
      · exact fun x => quantAll_emb _ _ (⟨22, by decide⟩ : Fin 28) rfl _ x
      · exact fun x => quantAll_emb _ _ (⟨21, by decide⟩ : Fin 28) rfl _ x
      · exact fun x => quantAll_emb _ _ (⟨20, by decide⟩ : Fin 28) rfl _ x
      · exact fun x => quantAll_emb _ _ (⟨19, by decide⟩ : Fin 28) rfl _ x
      · exact fun x => quantAll_emb _ _ (⟨18, by decide⟩ : Fin 28) rfl _ x
      · exact fun x => quantAll_emb _ _ (⟨17, by decide⟩ : Fin 28) rfl _ x
      · exact fun x => quantAll_emb _ _ (⟨16, by decide⟩ : Fin 28) rfl _ x
      · exact fun x => quantAll_emb _ _ (⟨15, by decide⟩ : Fin 28) rfl _ x
      · exact fun x => quantAll_emb _ _ (⟨14, by decide⟩ : Fin 28) rfl _ x
      · exact fun x => quantAll_emb _ _ (⟨13, by decide⟩ : Fin 28) rfl _ x
      · exact fun x => quantAll_emb _ _ (⟨12, by decide⟩ : Fin 28) rfl _ x
      · exact fun x => quantAll_emb _ _ (⟨11, by decide⟩ : Fin 28) rfl _ x
      · exact fun x => quantAll_emb _ _ (⟨10, by decide⟩ : Fin 28) rfl _ x
      · exact fun x => quantAll_emb _ _ (⟨9, by decide⟩ : Fin 28) rfl _ x
      · exact fun x => quantAll_emb _ _ (⟨8, by decide⟩ : Fin 28) rfl _ x
      · exact fun x => quantAll_emb _ _ (⟨7, by decide⟩ : Fin 28) rfl _ x
      · exact fun x => quantAll_emb _ _ (⟨6, by decide⟩ : Fin 28) rfl _ x
      · exact fun x => quantAll_emb _ _ (⟨5, by decide⟩ : Fin 28) rfl _ x
      · exact fun x => quantAll_emb _ _ (⟨4, by decide⟩ : Fin 28) rfl _ x
      · exact fun x => quantAll_emb _ _ (⟨3, by decide⟩ : Fin 28) rfl _ x
      · exact fun x => quantAll_emb _ _ (⟨2, by decide⟩ : Fin 28) rfl _ x
      · exact fun x => quantAll_emb _ _ (⟨1, by decide⟩ : Fin 28) rfl _ x
      · exact fun x => quantAll_emb _ _ (⟨0, by decide⟩ : Fin 28) rfl _ x

    isplitl [H7]
    · iexists _; isplitr; swap; · iexact H7
      ipureintro
      exact (View.read_writes_full _ _ _ _ _).trans (congrArg k0_pay7 e51)
    isplitl [HS0]
    · iexists _; isplitr; swap; · iexact HS0
      ipureintro
      exact harg9.read_unread _
    isplitl [HS1]
    · iexists _; isplitr; swap; · iexact HS1
      ipureintro
      exact harg10.read_unread _
    isplitl [HS2]
    · iexists _; isplitr; swap; · iexact HS2
      ipureintro
      exact es
    iexists _; isplitr; swap; · iexact HS3
    ipureintro
    unfold runC.sl.HS3_1; exact (View.read_writes_full _ _ _ _ _).trans (congrArg₂ maxBlk eyf (readAt_unread_full harg12 xs3 inb_S128x1_S128x1_0_0))

end Cert.Kernel.Body

end
-- ==== Proof.BitsLaunch.lean ====
/- The launch: what the grid points compute one after the other, and what every buffer holds when the program has run. The kernel as printed, whose floats are words; its ideal form's text is the same. -/
module

public import proofs.«01_k».proof.Proof.BitsRunC

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
abbrev firstPt : Fin cfg0.N := ⟨0, lt_of_lt_of_eq (by decide : 0 < 28) (show 28 = cfg0.N from N_0.symm)⟩

/-- A point's grid coordinate is its number. -/
theorem coords_zero (t : Fin cfg0.N) : (grid0.coords t 0).val = t.val := by
  have ht : t.val < 28 := Nat.lt_of_lt_of_eq t.isLt N_0
  have e0 : (grid0.coords t 0).val = t.val / 1 % 28 := Pipeline.Grid.coords_val t 0 (by decide) rfl
  omega

/-! ## What the launch computes, point by point -/

/-- The activations, as the region finds them. -/
def X0 (c : Dev nD) : Vec F S128x4096 .bf16 := iblk m c 0 firstPt
/-- Their block is the same at every point. -/
theorem iblk0_eq (c : Dev nD) (t : Fin cfg0.N) : iblk m c 0 t = X0 m c := rfl

/-- The block of scaled products of point `t`. -/
def YF (c : Dev nD) (t : Fin cfg0.N) : FVec F S128x512 .f32 :=
  yfBlk (k0_pay46 (X0 m c)) (iblk m c 1 t) (k0_pay47 (X0 m c)) (iblk m c 2 t)

/-- The running row maxima before point `n`: zero at first, then raised by every block. -/
def maxN (c : Dev nD) : ℕ → FVec F S128x1 .f32
  | 0 => k0_pay49
  | n + 1 => if h : n < cfg0.N then maxBlk (YF m c ⟨n, h⟩) (maxN c n) else maxN c n

/-- The running row maxima after point `t`. -/
theorem maxN_succ (c : Dev nD) (t : Fin cfg0.N) : maxN m c (t.val + 1) = maxBlk (YF m c t) (maxN m c t.val) := dif_pos t.isLt

/-- All blocks of scaled products. -/
def ALL (c : Dev nD) : Vec F S28x128x512 .f32 :=
  fun y => YF m c ⟨(y 0).val, lt_of_lt_of_eq (y 0).isLt (show 28 = cfg0.N from N_0.symm)⟩ (ix2 (y 1) (y 2))

/-- A buffer that holds the blocks before point `t` holds, with point `t`'s block put in, the blocks up to point `t`. -/
theorem slabs_succ (c : Dev nD) (t : Fin cfg0.N) (d : Vec F S28x128x512 .f32) (hd : ∀ y : S28x128x512.Idx, (y 0).val < t.val → d y = ALL m c y) :
    ∀ y : S28x128x512.Idx, (y 0).val < t.val + 1 → putSlab d t.val (YF m c t) y = ALL m c y := by
  intro y hy
  unfold putSlab
  by_cases h : (y 0).val = t.val
  · rw [if_pos h]
    obtain ⟨t, ht⟩ := t
    dsimp only at h
    subst h
    rfl
  · rw [if_neg h]
    exact hd y (by omega)

/-- After the last point the buffer holds all blocks. -/
theorem final_slabs (c : Dev nD) (t : Fin cfg0.N) (ht : t.val % 28 = 27) (d : Vec F S28x128x512 .f32) (hd : ∀ y : S28x128x512.Idx, (y 0).val < t.val → d y = ALL m c y) :
    putSlab d t.val (YF m c t) = ALL m c := by
  funext y
  have hN : t.val < 28 := lt_of_lt_of_eq t.isLt (show cfg0.N = 28 from N_0)
  have hy : (y 0).val < 28 := (y 0).isLt
  exact slabs_succ m c t d hd y (by omega)

/-- The invariant before point `n > 0`: the scratch buffers hold the codes of the activations, their scales, the blocks of
    the points before `n`, and the running row maxima. -/
def PhiS (c : Dev nD) : (n : ℕ) → n ≤ cfg0.N → sProp 𝕄
  | 0, _ => Pipeline.ΦA spec0 c
  | n + 1, _ => iprop(iprop(owns (c : Thread nD τ) scM0_0 fullShare (k0_pay46 (X0 m c)) ∗ owns (c : Thread nD τ) scM0_1 fullShare (k0_pay47 (X0 m c))
      ∗ (∃ d, ⌜∀ y : S28x128x512.Idx, (y 0).val < n + 1 → d y = ALL m c y⌝ ∗ owns (c : Thread nD τ) scM0_2 fullShare d)
      ∗ owns (c : Thread nD τ) scM0_3 fullShare (maxN m c (n + 1))) ∗ (∃ r, prngReg c r))

/-- Before the first point the scratch buffers hold anything. -/
theorem PhiS_zero (c : Dev nD) (n : ℕ) (h : n ≤ cfg0.N) (hz : n = 0) : PhiS m c n h = Pipeline.ΦA spec0 c := by
  subst hz; rfl

/-- The invariant after point `n`. -/
theorem PhiS_succ (c : Dev nD) (n : ℕ) (hn : n < cfg0.N) :
    PhiS m c (n + 1) hn = iprop(iprop(owns (c : Thread nD τ) scM0_0 fullShare (k0_pay46 (X0 m c)) ∗ owns (c : Thread nD τ) scM0_1 fullShare (k0_pay47 (X0 m c))
      ∗ (∃ d, ⌜∀ y : S28x128x512.Idx, (y 0).val < n + 1 → d y = ALL m c y⌝ ∗ owns (c : Thread nD τ) scM0_2 fullShare d)
      ∗ owns (c : Thread nD τ) scM0_3 fullShare (maxN m c (n + 1))) ∗ (∃ r, prngReg c r)) := rfl

/-- The invariant before a point that is not the first. -/
theorem PhiS_pos (c : Dev nD) (n : ℕ) (h : n ≤ cfg0.N) (hz : n ≠ 0) :
    PhiS m c n h = iprop(iprop(owns (c : Thread nD τ) scM0_0 fullShare (k0_pay46 (X0 m c)) ∗ owns (c : Thread nD τ) scM0_1 fullShare (k0_pay47 (X0 m c))
      ∗ (∃ d, ⌜∀ y : S28x128x512.Idx, (y 0).val < n → d y = ALL m c y⌝ ∗ owns (c : Thread nD τ) scM0_2 fullShare d)
      ∗ owns (c : Thread nD τ) scM0_3 fullShare (maxN m c n)) ∗ (∃ r, prngReg c r)) := by
  cases n with
  | zero => exact absurd rfl hz
  | succ n => rfl

/-! ## The pipeline's proof data -/

/-- The proof data of the pipeline on core `c`: the arrays as the region finds them; after the body at point `t` each input's
    buffer at its block, the `y` window at the point's block of `y`, and the four whole results at their final values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yBlk (YF m c t)
    | ⟨4, _⟩ => k0_pay45 (X0 m c)
    | ⟨5, _⟩ => k0_pay48 (X0 m c)
    | ⟨6, _⟩ => quantAll (k0_pay6 (maxN m c 28)) (ALL m c)
    | ⟨7, _⟩ => k0_pay7 (maxN m c 28)
  Φ t := PhiS m c t.val (Nat.le_of_lt_succ t.isLt)
  q _ := fullShare
  owed _ := 0

/-- The proof data's arrays are the contents the region is entered with. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = yBlk (YF m c t) := by dsimp only [dats]
/-- What the body leaves in window 4. -/
theorem after0_4 (c : Dev nD) (t : Fin cfg0.N) : (dats m 0 c).after 4 t = k0_pay45 (X0 m c) := by dsimp only [dats]
/-- What the body leaves in window 5. -/
theorem after0_5 (c : Dev nD) (t : Fin cfg0.N) : (dats m 0 c).after 5 t = k0_pay48 (X0 m c) := by dsimp only [dats]
/-- What the body leaves in window 6. -/
theorem after0_6 (c : Dev nD) (t : Fin cfg0.N) : (dats m 0 c).after 6 t = quantAll (k0_pay6 (maxN m c 28)) (ALL m c) := by dsimp only [dats]
/-- What the body leaves in window 7. -/
theorem after0_7 (c : Dev nD) (t : Fin cfg0.N) : (dats m 0 c).after 7 t = k0_pay7 (maxN m c 28) := by dsimp only [dats]

/-- The activations' buffer holds its block at every point. -/
theorem before0_0 (c : Dev nD) (t : Fin cfg0.N) (d) : (dats m 0 c).before 0 t d = iblk m c 0 t :=
  before0_0_of m (dats m 0 c) (A_eq m c 0) (after0_0 m c) t d
/-- The weights' buffer holds its block at every point. -/
theorem before0_1 (c : Dev nD) (t : Fin cfg0.N) (d) : (dats m 0 c).before 1 t d = iblk m c 1 t :=
  before0_1_of m (dats m 0 c) (A_eq m c 1) (after0_1 m c) t d
/-- The weights' scales' buffer holds its block at every point. -/
theorem before0_2 (c : Dev nD) (t : Fin cfg0.N) (d) : (dats m 0 c).before 2 t d = iblk m c 2 t :=
  before0_2_of m (dats m 0 c) (A_eq m c 2) (after0_2 m c) t d

/-! ## Where the windows are idle, and where they are written back -/

/-- Window 3 is never idle. -/
theorem liveAt0_3 : ∀ t : Fin cfg0.N, cfg0.idle 3 (grid0.coords t) = false := fun _ => rfl
/-- Window 4 is written at the first point, -/
theorem idle0_4_first (t : Fin cfg0.N) (h : t.val % 28 = 0) : cfg0.idle 4 (grid0.coords t) = false := by
  show (!(k0_cond1 (grid0.coords t) == 1#1)) = false
  rw [show k0_cond1 (grid0.coords t) = 1#1 from (hcond0_0 t).mpr h]; rfl
/-- and at no later one. -/
theorem idle0_4_later (t : Fin cfg0.N) (h : ¬t.val % 28 = 0) : cfg0.idle 4 (grid0.coords t) = true := by
  show (!(k0_cond1 (grid0.coords t) == 1#1)) = true
  rw [beq_false_of_ne (fun e => h ((hcond0_0 t).mp e))]; rfl
/-- Window 5 is written at the first point, -/
theorem idle0_5_first (t : Fin cfg0.N) (h : t.val % 28 = 0) : cfg0.idle 5 (grid0.coords t) = false := idle0_4_first t h
/-- and at no later one. -/
theorem idle0_5_later (t : Fin cfg0.N) (h : ¬t.val % 28 = 0) : cfg0.idle 5 (grid0.coords t) = true := idle0_4_later t h
/-- Window 6 is written at the last point, -/
theorem idle0_6_last (t : Fin cfg0.N) (h : t.val % 28 = 27) : cfg0.idle 6 (grid0.coords t) = false := by
  show (!(k0_cond2 (grid0.coords t) == 1#1)) = false
  rw [show k0_cond2 (grid0.coords t) = 1#1 from (hcond0_1 t).mpr h]; rfl
/-- and at no earlier one. -/
theorem idle0_6_early (t : Fin cfg0.N) (h : ¬t.val % 28 = 27) : cfg0.idle 6 (grid0.coords t) = true := by
  show (!(k0_cond2 (grid0.coords t) == 1#1)) = true
  rw [beq_false_of_ne (fun e => h ((hcond0_1 t).mp e))]; rfl
/-- Window 7 is written at the last point, -/
theorem idle0_7_last (t : Fin cfg0.N) (h : t.val % 28 = 27) : cfg0.idle 7 (grid0.coords t) = false := idle0_6_last t h
/-- and at no earlier one. -/
theorem idle0_7_early (t : Fin cfg0.N) (h : ¬t.val % 28 = 27) : cfg0.idle 7 (grid0.coords t) = true := idle0_6_early t h

/-- Window 4 is written back after the last point only. -/
theorem noflush0_4 (t : Fin cfg0.N) (h : ¬t.val % 28 = 27) : (cfg0.win 4).flush t = false := Bool.eq_false_iff.mpr fun e => h ((flush0_4 t).mp e)
/-- Window 5 is written back after the last point only. -/
theorem noflush0_5 (t : Fin cfg0.N) (h : ¬t.val % 28 = 27) : (cfg0.win 5).flush t = false := Bool.eq_false_iff.mpr fun e => h ((flush0_5 t).mp e)
/-- Window 6 is written back after the last point only. -/
theorem noflush0_6 (t : Fin cfg0.N) (h : ¬t.val % 28 = 27) : (cfg0.win 6).flush t = false := Bool.eq_false_iff.mpr fun e => h ((flush0_6 t).mp e)
/-- Window 7 is written back after the last point only. -/
theorem noflush0_7 (t : Fin cfg0.N) (h : ¬t.val % 28 = 27) : (cfg0.win 7).flush t = false := Bool.eq_false_iff.mpr fun e => h ((flush0_7 t).mp e)

/-- What the body owes of a window it writes at the point. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]
/-- What the body owes of a window it does not write at the point, which is written back after it. -/
theorem leaves_flush (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

/-- After the first point window 4's buffer holds the activations' codes. -/
theorem before0_4 (c : Dev nD) (t : Fin cfg0.N) (ht : t.val ≠ 0) (d) : (dats m 0 c).before 4 t d = k0_pay45 (X0 m c) := by
  obtain ⟨n, hn⟩ := t
  induction n with
  | zero => exact absurd rfl ht
  | succ n ih =>
    have hN : n + 1 < 28 := lt_of_lt_of_eq hn (show cfg0.N = 28 from N_0)
    rw [Dat.before_of_pos _ 4 _ ht rfl, show (cfg0.win 4).flush ⟨n + 1 - 1, _⟩ = false from noflush0_4 _ (by show ¬ n % 28 = 27; omega),
      if_neg Bool.false_ne_true]
    unfold Dat.left
    by_cases hz : n = 0
    · rw [show cfg0.idle 4 (cfg0.grid.coords ⟨n + 1 - 1, _⟩) = false from idle0_4_first ⟨n, by omega⟩ (by show n % 28 = 0; omega)]
      exact after0_4 m c _
    · rw [show cfg0.idle 4 (cfg0.grid.coords ⟨n + 1 - 1, _⟩) = true from idle0_4_later ⟨n, by omega⟩ (by show ¬ n % 28 = 0; omega)]
      exact ih _ hz
/-- After the first point window 5's buffer holds the activations' scales. -/
theorem before0_5 (c : Dev nD) (t : Fin cfg0.N) (ht : t.val ≠ 0) (d) : (dats m 0 c).before 5 t d = k0_pay48 (X0 m c) := by
  obtain ⟨n, hn⟩ := t
  induction n with
  | zero => exact absurd rfl ht
  | succ n ih =>
    have hN : n + 1 < 28 := lt_of_lt_of_eq hn (show cfg0.N = 28 from N_0)
    rw [Dat.before_of_pos _ 5 _ ht rfl, show (cfg0.win 5).flush ⟨n + 1 - 1, _⟩ = false from noflush0_5 _ (by show ¬ n % 28 = 27; omega),
      if_neg Bool.false_ne_true]
    unfold Dat.left
    by_cases hz : n = 0
    · rw [show cfg0.idle 5 (cfg0.grid.coords ⟨n + 1 - 1, _⟩) = false from idle0_5_first ⟨n, by omega⟩ (by show n % 28 = 0; omega)]
      exact after0_5 m c _
    · rw [show cfg0.idle 5 (cfg0.grid.coords ⟨n + 1 - 1, _⟩) = true from idle0_5_later ⟨n, by omega⟩ (by show ¬ n % 28 = 0; omega)]
      exact ih _ hz

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 14400000 in
/-- The body at any point: the inputs' buffers hold their blocks, the point's number says which case it is in, and that case's
    run applies; it leaves the scratch buffers as the invariant after the point says and every window at what the proof data name. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 28 := lt_of_lt_of_eq t.isLt (show cfg0.N = 28 from N_0)
  have eyf : yfBlk (k0_pay46 (X0 m c)) (iblk m c 1 t) (k0_pay47 (X0 m c)) (iblk m c 2 t) = YF m c t := rfl
  simp only [iblk0_eq]
  by_cases h0 : t.val % 28 = 0
  · by_cases h1 : t.val % 28 = 27
    · exfalso; omega
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [leaves_live m c 4 t (idle0_4_first t h0), after0_4]
      rw [leaves_live m c 5 t (idle0_5_first t h0), after0_5]
      rw [(dats m 0 c).leavesExact_idle 6 t (idle0_6_early t h1) (noflush0_6 t h1)]
      rw [(dats m 0 c).leavesExact_idle 7 t (idle0_7_early t h1) (noflush0_7 t h1)]
      rw [PhiS_castSucc m c t, PhiS_zero m c _ _ (by omega), PhiA0_eq]
      iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runA c (grid0.coords t) _ _ _ _ _ _ _ _ _ _ _ _ _ _ _ _ _ _ _ _ _ _ _ _ ((hcond0_0 t).mpr h0) (fun h => h1 ((hcond0_1 t).mp h)) _ _ _ _ _ _ _ _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      rw [eyf, coords_zero t]
      isplitl [HS0 HS1 HS2 HS3 Hg]
      · isplitl [HS0 HS1 HS2 HS3]
        · isplitl [HS0]; · iexact HS0
          isplitl [HS1]; · iexact HS1
          isplitl [HS2]
          · iexists _; isplitr; swap; · iexact HS2
            ipureintro; exact slabs_succ m c t e2 (fun y hy => absurd hy (by omega))
          rw [maxN_succ m c t, show maxN m c t.val = k0_pay49 from by rw [show t.val = 0 from by omega]; rfl]; iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · by_cases h1 : t.val % 28 = 27
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [leaves_flush m c 4 t (idle0_4_later t h0) ((flush0_4 t).mpr h1), after0_4]
      rw [leaves_flush m c 5 t (idle0_5_later t h0) ((flush0_5 t).mpr h1), after0_5]
      rw [leaves_live m c 6 t (idle0_6_last t h1), after0_6]
      rw [leaves_live m c 7 t (idle0_7_last t h1), after0_7]
      rw [PhiS_castSucc m c t, PhiS_pos m c _ _ (by omega)]
      simp only [before0_4 m c t (by omega), before0_5 m c t (by omega)]
      iintro ⟨⟨⟨HS0, HS1, ⟨%e2, %he2, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runC c (grid0.coords t) _ _ _ _ _ _ _ _ _ _ _ _ _ _ _ _ _ _ _ _ _ _ _ _ (fun h => h0 ((hcond0_0 t).mp h)) ((hcond0_1 t).mpr h1) _ _ _ _ _ _ _ _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      rw [eyf, coords_zero t, final_slabs m c t h1 e2 he2, ← maxN_succ m c t, show t.val + 1 = 28 from by omega]
      isplitl [HS0 HS1 HS2 HS3 Hg]
      · isplitl [HS0 HS1 HS2 HS3]
        · isplitl [HS0]; · iexact HS0
          isplitl [HS1]; · iexact HS1
          isplitl [HS2]
          · iexists _; isplitr; swap; · iexact HS2
            ipureintro; exact fun y _ => rfl
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · skip
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [(dats m 0 c).leavesExact_idle 4 t (idle0_4_later t h0) (noflush0_4 t h1)]
      rw [(dats m 0 c).leavesExact_idle 5 t (idle0_5_later t h0) (noflush0_5 t h1)]
      rw [(dats m 0 c).leavesExact_idle 6 t (idle0_6_early t h1) (noflush0_6 t h1)]
      rw [(dats m 0 c).leavesExact_idle 7 t (idle0_7_early t h1) (noflush0_7 t h1)]
      rw [PhiS_castSucc m c t, PhiS_pos m c _ _ (by omega)]
      iintro ⟨⟨⟨HS0, HS1, ⟨%e2, %he2, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c (grid0.coords t) _ _ _ _ _ _ _ _ _ _ _ _ _ _ _ _ _ _ _ _ _ _ _ _ (fun h => h0 ((hcond0_0 t).mp h)) (fun h => h1 ((hcond0_1 t).mp h)) _ _ _ _ _ _ _ _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      rw [eyf, coords_zero t]
      isplitl [HS0 HS1 HS2 HS3 Hg]
      · isplitl [HS0 HS1 HS2 HS3]
        · isplitl [HS0]; · iexact HS0
          isplitl [HS1]; · iexact HS1
          isplitl [HS2]
          · iexists _; isplitr; swap; · iexact HS2
            ipureintro; exact slabs_succ m c t e2 he2
          rw [maxN_succ m c t]; iexact HS3
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      iexists _; iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = PhiS m c cfg0.N le_rfl from rfl, PhiS_pos m c _ _ (by have : cfg0.N = 28 := N_0; omega), PhiA0_eq]
  iintro ⟨⟨HS0, HS1, ⟨%d, -, HS2⟩, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-! ## The run and the frame -/

set_option backward.isDefEq.respectTransparency.types false in
set_option maxHeartbeats 800000 in
/-- The launch: every execution ends with every array of the pipeline at what the proof data say, every other buffer at what the
    host lines leave there, and every semaphore counter at zero. -/
theorem run_main_quiescent : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

end Cert.Kernel.Body

end
-- ==== Proof.Frame.lean ====
/- The frame of the kernel as printed: it ends with its arguments unchanged and every semaphore counter zero. -/
module

public import proofs.«01_k».proof.Proof.BitsLaunch
public import Idealize.ShloMosaic.Lib.Pipeline.ValueKit
public import Idealize.ShloMosaic.Lib.Pointwise
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame -/

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Agree
public import proofs.«01_k».proof.Proof.Frame
public import Idealize.ShloMosaic.Adequacy
public import Idealize.ShloMosaic.Init

@[expose] public section

noncomputable section

namespace Cert.Proof

open Idealize.ShloMosaic Idealize.SL.Sem Cert.Kernel

/-- Started from the same arguments, the kernel and the reference end with the same five results, and both leave the arguments as
    they were. -/
theorem algebraic : Cert.algebraic_KernelIdeal_ReferenceIdeal (hKernelIdeal := Cert.KernelIdeal.Gen.facts) (hReferenceIdeal := Cert.ReferenceIdeal.Gen.facts) := by
  intro m g m' g' _ hagree
  have hX : ∀ c, Cert.KernelIdeal.Body.X m c = Cert.ReferenceIdeal.Body.X m' c := fun c =>
    funext fun a => funext fun k => (congrFun (hagree c).1 (ix3 0 a k)).symm
  have hW : ∀ c, Cert.KernelIdeal.Body.W m c = Cert.ReferenceIdeal.Body.W m' c := fun c =>
    funext fun k => funext fun n => (congrFun (hagree c).2.1 (ix2 k n)).symm
  have hS : ∀ c, Cert.KernelIdeal.Body.S m c = Cert.ReferenceIdeal.Body.S m' c := fun c =>
    funext fun n => (congrFun (hagree c).2.2 (ix1 n)).symm
  refine ⟨fun c => shapeCast Cert.KernelIdeal.S1x128x14336 (Cert.KernelIdeal.Body.YALL m c) Cert.KernelIdeal.Gen.shapeCasts_S128x14336_S1x128x14336,
    fun c => shapeCast Cert.KernelIdeal.S1x128x4096 (Cert.KernelIdeal.Gen.k0_pay45 (Cert.KernelIdeal.Body.X0 m c)) Cert.KernelIdeal.Gen.shapeCasts_S128x4096_S1x128x4096,
    fun c => Cert.KernelIdeal.Gen.k0_pay48 (Cert.KernelIdeal.Body.X0 m c),
    fun c => shapeCast Cert.KernelIdeal.S1x128x14336
      (Cert.KernelIdeal.Body.quantAll (Cert.KernelIdeal.Gen.k0_pay6 (Cert.KernelIdeal.Body.maxN m c 28)) (Cert.KernelIdeal.Body.ALL m c))
      Cert.KernelIdeal.Gen.shapeCasts_S128x14336_S1x128x14336,
    fun c => Cert.KernelIdeal.Gen.k0_pay7 (Cert.KernelIdeal.Body.maxN m c 28), (θ_run _ _ _).mono (fun _ h c => ?_) (θ_run_and (Cert.KernelIdeal.Body.results m g) (Cert.KernelIdeal.Body.unchanged m g)),
    (θ_run _ _ _).mono (fun _ h c => ?_) (θ_run_and (Cert.ReferenceIdeal.Body.results m' g') (Cert.ReferenceIdeal.Gen.unchanged m' g'))⟩
  · obtain ⟨h0, h1, h2, h3, h4⟩ := h.1 c
    exact ⟨h0, h1, h2, h3, h4, h.2 c⟩
  · obtain ⟨h0, h1, h2, h3, h4⟩ := h.1 c
    exact ⟨h0.trans (Cert.Quant.y_eq m m' c (hX c) (hW c) (hS c)), h1.trans (Cert.Quant.xq_eq m m' c (hX c)),
      h2.trans (Cert.Quant.xs_eq m m' c (hX c)), h3.trans (Cert.Quant.yq_eq m m' c (hX c) (hW c) (hS c)),
      h4.trans (Cert.Quant.ys_eq m m' c (hX c) (hW c) (hS c)), h.2 c⟩

/-- The frames of the kernel, of its ideal form and of the reference, the ideal form's agreement with the kernel, and the results'
    agreement with the reference. -/
theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ, fun m ρ _ => Cert.ReferenceIdeal.Gen.frame m ρ,
  trivial, algebraic⟩

end Cert.Proof

end
